-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S1024 : Shape := ⟨1, ![1024]⟩
abbrev S16x4096x64 : Shape := ⟨3, ![16, 4096, 64]⟩
abbrev S16x4096x32 : Shape := ⟨3, ![16, 4096, 32]⟩
abbrev S1024x2 : Shape := ⟨2, ![1024, 2]⟩
abbrev S512x2 : Shape := ⟨2, ![512, 2]⟩
abbrev S17 : Shape := ⟨1, ![17]⟩
abbrev S_ : Shape := ⟨0, ![]⟩
abbrev S16x4096 : Shape := ⟨2, ![16, 4096]⟩
abbrev S16x4096x1 : Shape := ⟨3, ![16, 4096, 1]⟩

class Facts : Prop where
  reducesTo_S16x4096x64_S16x4096_d2 : S16x4096x64.ReducesTo [2] S16x4096
  h_S_ : 0 < S_.numel
  bcast_S16x4096_S16x4096x1_0_1 : S16x4096.BroadcastsInDim S16x4096x1 (![0, 1] : Fin 2 → Fin S16x4096x1.rank)
  bcast_S_S16x4096x64 : S_.BroadcastsInDim S16x4096x64 (![] : Fin 0 → Fin S16x4096x64.rank)
  bcast_S_S16x4096x1 : S_.BroadcastsInDim S16x4096x1 (![] : Fin 0 → Fin S16x4096x1.rank)
  bcast_S16x4096x1_S16x4096x64_0_1_2 : S16x4096x1.BroadcastsInDim S16x4096x64 (![0, 1, 2] : Fin 3 → Fin S16x4096x64.rank)
  bcast_S_S16x4096x32 : S_.BroadcastsInDim S16x4096x32 (![] : Fin 0 → Fin S16x4096x32.rank)

variable [Facts]

def fn_part1 {F : FTy → Type} [FloatOps F] (main_arg4 : FVec F S16x4096x32 .f32) (main_v5 : IVec S16x4096x64 1) (main_v17 : IVec S16x4096x64 1) : IVec S16x4096x64 1 × IVec S16x4096x32 1 :=
  let main_v18 : IVec S16x4096x64 1 := ori main_v5 main_v17
  let main_cst_5 : FVec F S_ .f32 := constant S_ .f32 0xFF800000#32
  let main_v19 : FVec F S16x4096x32 .f32 := broadcastInDim S16x4096x32 ![] bcast_S_S16x4096x32 main_cst_5
  let main_v20 : IVec S16x4096x32 1 := cmpf .ogt main_arg4 main_v19
  (main_v18, main_v20)

def fn {F : FTy → Type} [FloatOps F] (main_arg0 : FVec F S1024 .f32) (main_arg1 : FVec F S16x4096x64 .f32) (main_arg2 : FVec F S16x4096x64 .f32) (main_arg3 : FVec F S16x4096x32 .f32) (main_arg4 : FVec F S16x4096x32 .f32) (main_arg5 : FVec F S1024x2 .f32) (main_arg6 : FVec F S512x2 .f32) (main_arg7 : IVec S17 32) (main_arg8 : IVec S17 32) : IVec S16x4096x64 1 × IVec S16x4096x32 1 :=
  let main_v0 : FVec F S16x4096x64 .f32 := Host.exp main_arg1
  let main_v1 : FVec F S16x4096x64 .f32 := mulf main_v0 main_arg2
  let main_cst : FVec F S_ .f32 := constant S_ .f32 0x00000000#32
  let main_v2 : FVec F S16x4096 .f32 := (fun x v => Host.reduceAdd x v reducesTo_S16x4096x64_S16x4096_d2 h_S_) main_v1 main_cst
  let main_v3 : FVec F S16x4096x1 .f32 := broadcastInDim S16x4096x1 ![0, 1] bcast_S16x4096_S16x4096x1_0_1 main_v2
  let main_cst_0 : FVec F S_ .f32 := constant S_ .f32 0x00000000#32
  let main_v4 : FVec F S16x4096x64 .f32 := broadcastInDim S16x4096x64 ![] bcast_S_S16x4096x64 main_cst_0
  let main_v5 : IVec S16x4096x64 1 := cmpf .oeq main_arg2 main_v4
  let main_cst_1 : FVec F S_ .f32 := constant S_ .f32 0x2B8CBCCC#32
  let main_v6 : FVec F S16x4096x64 .f32 := broadcastInDim S16x4096x64 ![] bcast_S_S16x4096x64 main_cst_1
  let main_v7 : IVec S16x4096x64 1 := cmpf .oge main_arg2 main_v6
  let main_cst_2 : FVec F S_ .f32 := constant S_ .f32 0x7F800000#32
  let main_v8 : FVec F S16x4096x64 .f32 := broadcastInDim S16x4096x64 ![] bcast_S_S16x4096x64 main_cst_2
  let main_v9 : IVec S16x4096x64 1 := cmpf .olt main_arg2 main_v8
  let main_v10 : IVec S16x4096x64 1 := andi main_v7 main_v9
  let main_cst_3 : FVec F S_ .f32 := constant S_ .f32 0xFF800000#32
  let main_v11 : FVec F S16x4096x64 .f32 := broadcastInDim S16x4096x64 ![] bcast_S_S16x4096x64 main_cst_3
  let main_v12 : IVec S16x4096x64 1 := cmpf .ogt main_arg1 main_v11
  let main_v13 : IVec S16x4096x64 1 := andi main_v10 main_v12
  let main_cst_4 : FVec F S_ .f32 := constant S_ .f32 0x2B8CBCCC#32
  let main_v14 : FVec F S16x4096x1 .f32 := broadcastInDim S16x4096x1 ![] bcast_S_S16x4096x1 main_cst_4
  let main_v15 : IVec S16x4096x1 1 := cmpf .oge main_v3 main_v14
  let main_v16 : IVec S16x4096x64 1 := broadcastInDim S16x4096x64 ![0, 1, 2] bcast_S16x4096x1_S16x4096x64_0_1_2 main_v15
  let main_v17 : IVec S16x4096x64 1 := andi main_v13 main_v16
  fn_part1 (F := F) main_arg4 main_v5 main_v17
-- ==== Kernel.lean ====
abbrev S1024 : Shape := ⟨1, ![1024]⟩
abbrev S16x4096x64 : Shape := ⟨3, ![16, 4096, 64]⟩
abbrev S16x4096x32 : Shape := ⟨3, ![16, 4096, 32]⟩
abbrev S1024x2 : Shape := ⟨2, ![1024, 2]⟩
abbrev S512x2 : Shape := ⟨2, ![512, 2]⟩
abbrev S17 : Shape := ⟨1, ![17]⟩
abbrev S16x64x4096 : Shape := ⟨3, ![16, 64, 4096]⟩
abbrev S16x32x4096 : Shape := ⟨3, ![16, 32, 4096]⟩
abbrev S16x1x64 : Shape := ⟨3, ![16, 1, 64]⟩
abbrev S16x64x2 : Shape := ⟨3, ![16, 64, 2]⟩
abbrev S16x2x64 : Shape := ⟨3, ![16, 2, 64]⟩
abbrev S16x3x64 : Shape := ⟨3, ![16, 3, 64]⟩
abbrev S16x32x2 : Shape := ⟨3, ![16, 32, 2]⟩
abbrev S16x32x64 : Shape := ⟨3, ![16, 32, 64]⟩
abbrev S16x64x32 : Shape := ⟨3, ![16, 64, 32]⟩
abbrev S2x64x4096 : Shape := ⟨3, ![2, 64, 4096]⟩
abbrev S2x32x4096 : Shape := ⟨3, ![2, 32, 4096]⟩
abbrev S2x32x64 : Shape := ⟨3, ![2, 32, 64]⟩
abbrev S1x64x4096 : Shape := ⟨3, ![1, 64, 4096]⟩
abbrev S64x4096 : Shape := ⟨2, ![64, 4096]⟩
abbrev S1x32x4096 : Shape := ⟨3, ![1, 32, 4096]⟩
abbrev S32x4096 : Shape := ⟨2, ![32, 4096]⟩
abbrev S4096 : Shape := ⟨1, ![4096]⟩
abbrev S1x4096 : Shape := ⟨2, ![1, 4096]⟩
abbrev S4096x64 : Shape := ⟨2, ![4096, 64]⟩
abbrev S32x64 : Shape := ⟨2, ![32, 64]⟩
abbrev S4096x1 : Shape := ⟨2, ![4096, 1]⟩
abbrev S64x1 : Shape := ⟨2, ![64, 1]⟩
abbrev S1x64 : Shape := ⟨2, ![1, 64]⟩
abbrev S32x1 : Shape := ⟨2, ![32, 1]⟩
abbrev S1x32x1 : Shape := ⟨3, ![1, 32, 1]⟩
abbrev S1 : Shape := ⟨1, ![1]⟩
abbrev S1x1x1 : Shape := ⟨3, ![1, 1, 1]⟩
abbrev S1x3x64 : Shape := ⟨3, ![1, 3, 64]⟩
abbrev S3x64 : Shape := ⟨2, ![3, 64]⟩
abbrev S1x32x2 : Shape := ⟨3, ![1, 32, 2]⟩
abbrev S32x2 : Shape := ⟨2, ![32, 2]⟩
abbrev S1x32x64 : Shape := ⟨3, ![1, 32, 64]⟩

abbrev nBuf : Space → Nat
  | .hbm => 20
  | .vmem => 12
  | .smem => 0
  | _ => 0

abbrev bufTy : (tb : Table) → Fin (tcTables nBuf tb) → BufTy
  | .hbm, ⟨0, _⟩ => ⟨S1024, .f32⟩
  | .hbm, ⟨1, _⟩ => ⟨S16x4096x64, .f32⟩
  | .hbm, ⟨2, _⟩ => ⟨S16x4096x64, .f32⟩
  | .hbm, ⟨3, _⟩ => ⟨S16x4096x32, .f32⟩
  | .hbm, ⟨4, _⟩ => ⟨S16x4096x32, .f32⟩
  | .hbm, ⟨5, _⟩ => ⟨S1024x2, .f32⟩
  | .hbm, ⟨6, _⟩ => ⟨S512x2, .f32⟩
  | .hbm, ⟨7, _⟩ => ⟨S17, .i32⟩
  | .hbm, ⟨8, _⟩ => ⟨S17, .i32⟩
  | .hbm, ⟨9, _⟩ => ⟨S16x64x4096, .f32⟩
  | .hbm, ⟨10, _⟩ => ⟨S16x64x4096, .f32⟩
  | .hbm, ⟨11, _⟩ => ⟨S16x32x4096, .f32⟩
  | .hbm, ⟨12, _⟩ => ⟨S16x32x4096, .f32⟩
  | .hbm, ⟨13, _⟩ => ⟨S16x1x64, .f32⟩
  | .hbm, ⟨14, _⟩ => ⟨S16x64x2, .f32⟩
  | .hbm, ⟨15, _⟩ => ⟨S16x2x64, .f32⟩
  | .hbm, ⟨16, _⟩ => ⟨S16x3x64, .f32⟩
  | .hbm, ⟨17, _⟩ => ⟨S16x32x2, .f32⟩
  | .hbm, ⟨18, _⟩ => ⟨S16x32x64, .f32⟩
  | .hbm, ⟨19, _⟩ => ⟨S16x64x32, .f32⟩
  | .local _ .vmem, ⟨0, _⟩ => ⟨S16x3x64, .f32⟩
  | .local _ .vmem, ⟨1, _⟩ => ⟨S16x32x2, .f32⟩
  | .local _ .vmem, ⟨2, _⟩ => ⟨S2x64x4096, .f32⟩
  | .local _ .vmem, ⟨3, _⟩ => ⟨S2x64x4096, .f32⟩
  | .local _ .vmem, ⟨4, _⟩ => ⟨S2x64x4096, .f32⟩
  | .local _ .vmem, ⟨5, _⟩ => ⟨S2x64x4096, .f32⟩
  | .local _ .vmem, ⟨6, _⟩ => ⟨S2x32x4096, .f32⟩
  | .local _ .vmem, ⟨7, _⟩ => ⟨S2x32x4096, .f32⟩
  | .local _ .vmem, ⟨8, _⟩ => ⟨S2x32x4096, .f32⟩
  | .local _ .vmem, ⟨9, _⟩ => ⟨S2x32x4096, .f32⟩
  | .local _ .vmem, ⟨10, _⟩ => ⟨S2x32x64, .f32⟩
  | .local _ .vmem, ⟨11, _⟩ => ⟨S2x32x64, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_v0 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 3 → Nat :=
  let c2_i32 : BitVec 32 := 2#32
  let arg0 : BitVec 32 := BitVec.ofNat 32 (i 0).val
  let v0 : BitVec 32 := Scalar.muli c2_i32 arg0
  let v1 : BitVec 32 := Scalar.addi v0 c0_i32
  let v60 : Index := Scalar.indexCast v1
  let c0_27 : Index := 0#32
  let c0_28 : Index := 0#32
  ![v60.toNat, 0, 0]
def k0_off2 (i : grid0.Coords) (c0_i32 : BitVec 32) : Fin 3 → Nat :=
  let c2_i32 : BitVec 32 := 2#32
  let arg0 : BitVec 32 := BitVec.ofNat 32 (i 0).val
  let v0 : BitVec 32 := Scalar.muli c2_i32 arg0
  let v1 : BitVec 32 := Scalar.addi v0 c0_i32
  let v63 : Index := Scalar.indexCast v1
  let c0_29 : Index := 0#32
  let c0_30 : Index := 0#32
  ![v63.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x3x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x32x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1024 : Shape := ⟨1, ![1024]⟩
abbrev S16x4096x64 : Shape := ⟨3, ![16, 4096, 64]⟩
abbrev S16x4096x32 : Shape := ⟨3, ![16, 4096, 32]⟩
abbrev S1024x2 : Shape := ⟨2, ![1024, 2]⟩
abbrev S512x2 : Shape := ⟨2, ![512, 2]⟩
abbrev S17 : Shape := ⟨1, ![17]⟩
abbrev S_ : Shape := ⟨0, ![]⟩
abbrev S16x64 : Shape := ⟨2, ![16, 64]⟩
abbrev S16x64x32 : Shape := ⟨3, ![16, 64, 32]⟩
abbrev S16x64x1 : Shape := ⟨3, ![16, 64, 1]⟩
abbrev S16 : Shape := ⟨1, ![16]⟩
abbrev S16x1x1 : Shape := ⟨3, ![16, 1, 1]⟩
abbrev S16x4096 : Shape := ⟨2, ![16, 4096]⟩
abbrev S16x4096x1 : Shape := ⟨3, ![16, 4096, 1]⟩
abbrev S16x32 : Shape := ⟨2, ![16, 32]⟩
abbrev S16x1x32 : Shape := ⟨3, ![16, 1, 32]⟩
abbrev S16x64x2 : Shape := ⟨3, ![16, 64, 2]⟩
abbrev S16x32x2 : Shape := ⟨3, ![16, 32, 2]⟩
abbrev S16x64x1x2 : Shape := ⟨4, ![16, 64, 1, 2]⟩
abbrev S16x1x32x2 : Shape := ⟨4, ![16, 1, 32, 2]⟩
abbrev S16x64x32x2 : Shape := ⟨4, ![16, 64, 32, 2]⟩

abbrev nBuf : Space → Nat
  | .hbm => 158
  | .vmem => 0
  | .smem => 0
  | _ => 0

abbrev hbmTy0_0 (i : Nat) : BufTy := match i % 128 with
  | 0 => ⟨S1024, .f32⟩
  | 1 => ⟨S16x4096x64, .f32⟩
  | 2 => ⟨S16x4096x64, .f32⟩
  | 3 => ⟨S16x4096x32, .f32⟩
  | 4 => ⟨S16x4096x32, .f32⟩
  | 5 => ⟨S1024x2, .f32⟩
  | 6 => ⟨S512x2, .f32⟩
  | 7 => ⟨S17, .i32⟩
  | 8 => ⟨S17, .i32⟩
  | 9 => ⟨S1024, .f32⟩
  | 10 => ⟨S_, .f32⟩
  | 11 => ⟨S1024, .f32⟩
  | 12 => ⟨S1024, .f32⟩
  | 13 => ⟨S1024, .f32⟩
  | 14 => ⟨S1024, .f32⟩
  | 15 => ⟨S1024, .i1⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S16x64, .f32⟩
  | 25 => ⟨S16x4096x64, .f32⟩
  | 26 => ⟨S_, .f32⟩
  | 27 => ⟨S16x4096x64, .f32⟩
  | 28 => ⟨S16x4096x64, .f32⟩
  | 29 => ⟨S16x4096x64, .f32⟩
  | 30 => ⟨S16x4096x64, .f32⟩
  | 31 => ⟨S16x4096x64, .i1⟩
  | 32 => ⟨S16x4096x64, .f32⟩
  | 33 => ⟨S16x4096x64, .f32⟩
  | 34 => ⟨S16x4096x64, .f32⟩
  | 35 => ⟨S16x4096x64, .f32⟩
  | 36 => ⟨S16x4096x64, .f32⟩
  | 37 => ⟨S16x4096x64, .f32⟩
  | 38 => ⟨S16x4096x64, .f32⟩
  | 39 => ⟨S16x4096x64, .f32⟩
  | 40 => ⟨S16x4096x64, .f32⟩
  | 41 => ⟨S_, .f32⟩
  | 42 => ⟨S16x4096x64, .f32⟩
  | 43 => ⟨S16x4096x64, .f32⟩
  | 44 => ⟨S16x4096x64, .f32⟩
  | 45 => ⟨S16x4096x64, .f32⟩
  | 46 => ⟨S16x4096x64, .i1⟩
  | 47 => ⟨S16x4096x64, .f32⟩
  | 48 => ⟨S16x4096x64, .f32⟩
  | 49 => ⟨S16x4096x64, .f32⟩
  | 50 => ⟨S16x4096x64, .f32⟩
  | 51 => ⟨S16x4096x64, .f32⟩
  | 52 => ⟨S16x4096x64, .f32⟩
  | 53 => ⟨S16x4096x64, .f32⟩
  | 54 => ⟨S16x4096x64, .f32⟩
  | 55 => ⟨S16x4096x64, .f32⟩
  | 56 => ⟨S16x64x32, .f32⟩
  | 57 => ⟨S_, .f32⟩
  | 58 => ⟨S16x64, .f32⟩
  | 59 => ⟨S16x64x1, .f32⟩
  | 60 => ⟨S16x64x32, .f32⟩
  | 61 => ⟨S16x64x32, .f32⟩
  | 62 => ⟨S16x64x32, .f32⟩
  | 63 => ⟨S_, .f32⟩
  | 64 => ⟨S16, .f32⟩
  | 65 => ⟨S16x1x1, .f32⟩
  | 66 => ⟨S16x64x32, .f32⟩
  | 67 => ⟨S_, .f32⟩
  | 68 => ⟨S16x1x1, .f32⟩
  | 69 => ⟨S16x1x1, .f32⟩
  | 70 => ⟨S16x64x32, .f32⟩
  | 71 => ⟨S16x64x32, .f32⟩
  | 72 => ⟨S_, .f32⟩
  | 73 => ⟨S16x4096x64, .f32⟩
  | 74 => ⟨S16x4096x64, .i1⟩
  | 75 => ⟨S_, .f32⟩
  | 76 => ⟨S_, .f32⟩
  | 77 => ⟨S16x4096x64, .f32⟩
  | 78 => ⟨S16x4096x64, .f32⟩
  | 79 => ⟨S_, .f32⟩
  | 80 => ⟨S16x4096, .f32⟩
  | 81 => ⟨S16x4096x1, .f32⟩
  | 82 => ⟨S16x4096x64, .f32⟩
  | 83 => ⟨S16x4096x64, .f32⟩
  | 84 => ⟨S16x4096x64, .f32⟩
  | 85 => ⟨S16x4096x64, .f32⟩
  | 86 => ⟨S_, .f32⟩
  | 87 => ⟨S16x4096, .f32⟩
  | 88 => ⟨S16x4096x1, .f32⟩
  | 89 => ⟨S_, .f32⟩
  | 90 => ⟨S16x4096x1, .f32⟩
  | 91 => ⟨S16x4096x1, .f32⟩
  | 92 => ⟨S16x4096x64, .f32⟩
  | 93 => ⟨S16x4096x64, .f32⟩
  | 94 => ⟨S16x64x32, .f32⟩
  | 95 => ⟨S_, .f32⟩
  | 96 => ⟨S16x64x32, .f32⟩
  | 97 => ⟨S16x64x32, .f32⟩
  | 98 => ⟨S_, .f32⟩
  | 99 => ⟨S16x64, .f32⟩
  | 100 => ⟨S16x64x1, .f32⟩
  | 101 => ⟨S_, .f32⟩
  | 102 => ⟨S16x32, .f32⟩
  | 103 => ⟨S16x1x32, .f32⟩
  | 104 => ⟨S16x64x32, .f32⟩
  | 105 => ⟨S16x64x32, .f32⟩
  | 106 => ⟨S16x64x32, .f32⟩
  | 107 => ⟨S_, .f32⟩
  | 108 => ⟨S16x64x32, .f32⟩
  | 109 => ⟨S16x64x32, .f32⟩
  | 110 => ⟨S_, .f32⟩
  | 111 => ⟨S16x64x32, .f32⟩
  | 112 => ⟨S16x64x32, .f32⟩
  | 113 => ⟨S16x64x32, .f32⟩
  | 114 => ⟨S_, .f32⟩
  | 115 => ⟨S16x64x32, .f32⟩
  | 116 => ⟨S16x64x32, .f32⟩
  | 117 => ⟨S16x64x2, .f32⟩
  | 118 => ⟨S16x32x2, .f32⟩
  | 119 => ⟨S16x64x1x2, .f32⟩
  | 120 => ⟨S16x1x32x2, .f32⟩
  | 121 => ⟨S16x64x32x2, .f32⟩
  | 122 => ⟨S16x64x32x2, .f32⟩
  | 123 => ⟨S16x64x32x2, .f32⟩
  | 124 => ⟨S16x64x32x2, .f32⟩
  | 125 => ⟨S_, .f32⟩
  | 126 => ⟨S16x64x32x2, .f32⟩
  | 127 => ⟨S16x64x32x2, .i1⟩
  | _ => ⟨S1024, .f32⟩

abbrev hbmTy0_1 (i : Nat) : BufTy := match i % 128 with
  | 0 => ⟨S_, .f32⟩
  | 1 => ⟨S16x64x32x2, .f32⟩
  | 2 => ⟨S16x64x32x2, .f32⟩
  | 3 => ⟨S16x64x32x2, .f32⟩
  | 4 => ⟨S_, .f32⟩
  | 5 => ⟨S16x64x32x2, .f32⟩
  | 6 => ⟨S16x64x32x2, .f32⟩
  | 7 => ⟨S16x64x32x2, .f32⟩
  | 8 => ⟨S_, .f32⟩
  | 9 => ⟨S16x64x32, .f32⟩
  | 10 => ⟨S_, .f32⟩
  | 11 => ⟨S16x64x32, .f32⟩
  | 12 => ⟨S16x64x32, .f32⟩
  | 13 => ⟨S16x64x1, .f32⟩
  | 14 => ⟨S_, .f32⟩
  | 15 => ⟨S16x64x1, .f32⟩
  | 16 => ⟨S16x64x1, .f32⟩
  | 17 => ⟨S_, .f32⟩
  | 18 => ⟨S16x64x32, .f32⟩
  | 19 => ⟨S16x64x32, .f32⟩
  | 20 => ⟨S16x64x32, .f32⟩
  | 21 => ⟨S16x64x32, .f32⟩
  | 22 => ⟨S_, .f32⟩
  | 23 => ⟨S16x64x32, .f32⟩
  | 24 => ⟨S16x64x32, .f32⟩
  | 25 => ⟨S16x64x32, .f32⟩
  | 26 => ⟨S_, .f32⟩
  | 27 => ⟨S16x64x32, .f32⟩
  | 28 => ⟨S16x64x32, .f32⟩
  | 29 => ⟨S16x64x32, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_call1_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_v4 : Ref sig .tc := ⟨.hbm, 39, rfl⟩
abbrev main_v5 : Ref sig .tc := ⟨.hbm, 40, rfl⟩
abbrev main_call2_cst : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_cst : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_cst_0 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_cst_1 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_cst_2 : Ref sig .tc := ⟨.hbm, 72, rfl⟩
abbrev main_v21 : Ref sig .tc := ⟨.hbm, 73, rfl⟩
abbrev main_v22 : Ref sig .tc := ⟨.hbm, 74, rfl⟩
abbrev main_cst_3 : Ref sig .tc := ⟨.hbm, 75, rfl⟩
abbrev main_call3_v0 : Ref sig .tc := ⟨.hbm, 76, rfl⟩
abbrev main_call3_v1 : Ref sig .tc := ⟨.hbm, 77, rfl⟩
abbrev main_v23 : Ref sig .tc := ⟨.hbm, 78, rfl⟩
abbrev main_cst_4 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_cst_5 : Ref sig .tc := ⟨.hbm, 86, rfl⟩
abbrev main_v30 : Ref sig .tc := ⟨.hbm, 87, rfl⟩
abbrev main_v31 : Ref sig .tc := ⟨.hbm, 88, rfl⟩
abbrev main_cst_6 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_cst_7 : Ref sig .tc := ⟨.hbm, 95, rfl⟩
abbrev main_v37 : Ref sig .tc := ⟨.hbm, 96, rfl⟩
abbrev main_v38 : Ref sig .tc := ⟨.hbm, 97, rfl⟩
abbrev main_cst_8 : Ref sig .tc := ⟨.hbm, 98, rfl⟩
abbrev main_v39 : Ref sig .tc := ⟨.hbm, 99, rfl⟩
abbrev main_v40 : Ref sig .tc := ⟨.hbm, 100, rfl⟩
abbrev main_cst_9 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_10 : Ref sig .tc := ⟨.hbm, 107, rfl⟩
abbrev main_v46 : Ref sig .tc := ⟨.hbm, 108, rfl⟩
abbrev main_v47 : Ref sig .tc := ⟨.hbm, 109, rfl⟩
abbrev main_cst_11 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_cst_12 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_cst_13 : Ref sig .tc := ⟨.hbm, 125, rfl⟩
abbrev main_v61 : Ref sig .tc := ⟨.hbm, 126, rfl⟩
abbrev main_v62 : Ref sig .tc := ⟨.hbm, 127, rfl⟩
abbrev main_cst_14 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_cst_15 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_cst_16 : Ref sig .tc := ⟨.hbm, 136, rfl⟩
abbrev main_v69 : Ref sig .tc := ⟨.hbm, 137, rfl⟩
abbrev main_cst_17 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_cst_18 : Ref sig .tc := ⟨.hbm, 142, rfl⟩
abbrev main_v73 : Ref sig .tc := ⟨.hbm, 143, rfl⟩
abbrev main_v74 : Ref sig .tc := ⟨.hbm, 144, rfl⟩
abbrev main_cst_19 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_cst_20 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_cst_21 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩

abbrev nD : Nat := 1
abbrev τ : Topo := Topo.v7x

variable {F : FTy → Type} [FloatOps F]
-- ==== Proof.Cost.lean ====
/- The matching cost of one query and one electron of one batch entry, over the extended reals, in the two spellings at hand:
   the kernel's (`cost`) and the reference's (`costRef`). The equation between them is in Equation.lean. -/
module

public import Idealize.ShloMosaic.Lib.IdealHost
public import Idealize.ShloMosaic.PureOps.Ideal.Laws

@[expose] public section

noncomputable section

namespace Cert.Cost

open Idealize.ShloMosaic

/-- The least divisor of a softmax, the f32 nearest to 1e-12. -/
def tiny : EReal := Ideal.ofBits .f32 0x2B8CBCCC#32
/-- The stand-in for a logit outside the support, the f32 nearest to -1e30. -/
def low : EReal := Ideal.ofBits .f32 0xF149F2CA#32
/-- The f32 one half. -/
def half : EReal := Ideal.ofBits .f32 0x3F000000#32
/-- The f32 two. -/
def two : EReal := Ideal.ofBits .f32 0x40000000#32

/-- The f32 minus infinity. -/
theorem bottom_eq : Ideal.ofBits .f32 0xFF800000#32 = ⊥ := by simp [Ideal.ofBits, Ideal.ieee]

/-- The absolute value as the larger of the two signs. -/
theorem abs_eq {φ : FTy} (x : Ideal φ) : (FloatOps.absf x : EReal) = max x (-x) := rfl

/-- `log (1 + exp x)` without overflow: `max x 0 + log1p (exp (-|x|))`. -/
def softplus (x : EReal) : EReal := max x 0 + Ideal.log1p (Ideal.exp (-max x (-x)))

/-- The Huber distance of a difference, at threshold one. -/
def huber (d : EReal) : EReal :=
  Scalar.select (Ideal.cmp .olt (max d (-d)) 1) (half * d * d) (max d (-d) - half)

/-- A query's share of a point, as the kernel takes it: its masked exponential over the sum of them. -/
def portion (x μ : Fin 64 → EReal) (q : Fin 64) : EReal :=
  Ideal.div (Ideal.exp (x q) * μ q) (max (∑ k, Ideal.exp (x k) * μ k) tiny)

/-- A logit, or the stand-in where the support mask is not positive. -/
def masked (x μ : Fin 64 → EReal) (q : Fin 64) : EReal := Scalar.select (Ideal.cmp .ogt (μ q) 0) (x q) low

/-- A query's share of a point as the reference takes it: every exponent first lowered by the greatest masked logit. -/
def portionRef (x μ : Fin 64 → EReal) (q : Fin 64) : EReal :=
  Ideal.div (Ideal.exp (masked x μ q - (Finset.univ : Finset (Fin 64)).fold max ⊥ (masked x μ)) * μ q)
    (max (∑ k, Ideal.exp (masked x μ k - (Finset.univ : Finset (Fin 64)).fold max ⊥ (masked x μ)) * μ k) tiny)

/-- The data of one batch entry: class logits, mask logits and their support by query and point, segment values and
    presence by electron and point, positions by query and by electron. -/
structure Data where
  cls : Fin 64 → EReal
  x : Fin 64 → Fin 4096 → EReal
  mask : Fin 64 → Fin 4096 → EReal
  sv : Fin 32 → Fin 4096 → EReal
  t : Fin 32 → Fin 4096 → EReal
  px : Fin 64 → Fin 2 → EReal
  py : Fin 32 → Fin 2 → EReal

/-- The number of present segment points, at least one. -/
def present (t : Fin 32 → Fin 4096 → EReal) : EReal := max (∑ e, ∑ p, t e p) 1

/-- One minus the smoothed dice ratio of an overlap and the two totals. -/
def dice (num a b : EReal) : EReal := 1 - Ideal.div (two * num + 1) (a + b + 1)

/-- The kernel's cost of query `q` against electron `e`. -/
def cost (D : Data) (e : Fin 32) (q : Fin 64) : EReal :=
  softplus (-(D.cls q))
    + Ideal.div ((∑ p, softplus (D.x q p) * D.mask q p) - ∑ p, D.t e p * (D.x q p * D.mask q p)) (present D.t)
    + dice (∑ p, D.sv e p * portion (D.x · p) (D.mask · p) q) (∑ p, portion (D.x · p) (D.mask · p) q) (∑ p, D.sv e p)
    + half * (huber (D.px q 0 - D.py e 0) + huber (D.px q 1 - D.py e 1))

/-- The reference's cost of query `q` against electron `e`. -/
def costRef (D : Data) (e : Fin 32) (q : Fin 64) : EReal :=
  softplus (-(D.cls q))
    + Ideal.div ((∑ p, softplus (-(D.x q p)) * D.mask q p * D.t e p)
        + ((∑ p, softplus (D.x q p) * D.mask q p) - ∑ p, softplus (D.x q p) * D.mask q p * D.t e p)) (present D.t)
    + dice (∑ p, portionRef (D.x · p) (D.mask · p) q * D.sv e p) (∑ p, portionRef (D.x · p) (D.mask · p) q) (∑ p, D.sv e p)
    + Ideal.div (∑ k : Fin 2, huber (D.px q k - D.py e k)) two

end Cert.Cost

end
-- ==== Proof.Equation.lean ====
/- The two spellings of the matching cost agree where every point of the support has weights and logits in range and no presence
   is minus infinity. -/
module

public import proofs.«01_k».proof.Proof.Cost
public import Mathlib.Analysis.Complex.Exponential

@[expose] public section

noncomputable section

namespace Cert.Cost

open Idealize.ShloMosaic

/-! ## The literals -/

/-- The real number that `tiny` is. -/
def tinyR : ℝ := 9223372 * (2 : ℝ) ^ (-63 : Int)
/-- The real number that `low` is. -/
def lowR : ℝ := -(13234890 * (2 : ℝ) ^ (76 : Int))

theorem tiny_eq : tiny = (tinyR : EReal) := by
  simp [tiny, tinyR, Ideal.ofBits, Ideal.ieee, -EReal.coe_mul, -EReal.coe_neg]

theorem low_eq : low = (lowR : EReal) := by
  simp [low, lowR, Ideal.ofBits, Ideal.ieee, -EReal.coe_mul, -EReal.coe_neg]

theorem half_eq : half = ((1 / 2 : ℝ) : EReal) := by
  simp [half, Ideal.ofBits, Ideal.ieee, -EReal.coe_mul]; norm_num

theorem two_eq : two = ((2 : ℝ) : EReal) := by
  simp [two, Ideal.ofBits, Ideal.ieee, -EReal.coe_mul]; norm_num

theorem low_neg : lowR ≤ 0 := by norm_num [lowR]

theorem tiny_pos : 0 < tinyR := by norm_num [tinyR]

/-! ## Softplus -/

/-- Softplus of a real number. -/
theorem softplus_coe (r : ℝ) : softplus r = ((max r 0 + Real.log (1 + Real.exp (-|r|)) : ℝ) : EReal) := by
  have hp : ¬ (1 + Real.exp (-|r|) ≤ 0) := not_le.mpr (by positivity)
  have ha : -max (r : EReal) (-(r : EReal)) = ((-|r| : ℝ) : EReal) := by
    rw [abs_eq_max_neg]; norm_cast
  rw [softplus, ha, Ideal.log1p, Ideal.exp_coe, ← EReal.coe_one, ← EReal.coe_add, Ideal.log_coe, if_neg hp]
  norm_cast

/-- Softplus at a real number and at its opposite differ by the number. -/
theorem softplus_sub (r : ℝ) :
    (max r 0 + Real.log (1 + Real.exp (-|r|))) - (max (-r) 0 + Real.log (1 + Real.exp (-|-r|))) = r := by
  rw [abs_neg]
  rcases le_total 0 r with h | h
  · rw [max_eq_left h, max_eq_right (by linarith)]; ring
  · rw [max_eq_right h, max_eq_left (by linarith)]; ring

/-! ## Sums of real numbers -/

/-- A sum of real numbers, each given as an extended real. -/
theorem sum_coe {ι : Type} [Fintype ι] (f : ι → ℝ) : (∑ i, ((f i : ℝ) : EReal)) = ((∑ i, f i : ℝ) : EReal) := by
  classical
  refine Finset.induction_on (Finset.univ : Finset ι) (by simp) fun a s ha ih => ?_
  rw [Finset.sum_insert ha, Finset.sum_insert ha, ih, EReal.coe_add]

/-- A sum of terms above minus infinity is above it. -/
theorem sum_above {ι : Type} [Fintype ι] (f : ι → EReal) (h : ∀ i, ⊥ < f i) : ⊥ < ∑ i, f i := by
  classical
  refine Finset.induction_on (Finset.univ : Finset ι) (by simp) fun a s ha ih => ?_
  rw [Finset.sum_insert ha]
  exact EReal.bot_lt_add_iff.mpr ⟨h a, ih⟩

/-- A sum of terms above minus infinity is infinite if one of them is. -/
theorem sum_top_of {ι : Type} [Fintype ι] (f : ι → EReal) (h : ∀ i, ⊥ < f i) (i : ι) (hi : f i = ⊤) : ∑ j, f j = ⊤ := by
  classical
  rw [← Finset.add_sum_erase _ _ (Finset.mem_univ i), hi, ← Finset.sum_coe_sort]
  exact EReal.top_add_of_ne_bot (sum_above (fun j : (Finset.univ.erase i : Finset ι) => f j) fun j => h j).ne'

/-! ## The mask cost -/

/-- The logarithm of one plus zero. -/
theorem log1p_zero : Ideal.log1p 0 = 0 := by
  rw [Ideal.log1p, add_zero, ← EReal.coe_one, Ideal.log_coe, if_neg (by norm_num), Real.log_one, EReal.coe_zero]

/-- Softplus of infinity, and of its opposite. -/
theorem softplus_top : softplus ⊤ = ⊤ := by
  simp [softplus, log1p_zero]

theorem softplus_bot : softplus (-⊤) = 0 := by
  simp [softplus, log1p_zero]

/-- One point's terms: the reference's two differ by the kernel's, and the first of them is a real number. -/
theorem term_eq (x μ : EReal) (t : ℝ) (hμ : μ = 0 ∨ 0 < μ ∧ μ < ⊤ ∧ ⊥ < x) :
    ∃ a : ℝ, softplus (-x) * μ * t = (a : EReal) ∧ softplus x * μ * t = t * (x * μ) + (a : EReal) := by
  rcases hμ with rfl | ⟨h0, hT, hx⟩
  · exact ⟨0, by simp, by simp⟩
  lift μ to ℝ using ⟨hT.ne, (EReal.bot_lt_zero.trans h0).ne'⟩
  induction x with
  | bot => exact absurd hx (lt_irrefl _)
  | top =>
    refine ⟨0, by rw [softplus_bot]; simp, ?_⟩
    rw [softplus_top, mul_comm, EReal.coe_zero, add_zero]
  | coe r =>
    refine ⟨(max (-r) 0 + Real.log (1 + Real.exp (-|-r|))) * μ * t, ?_, ?_⟩
    · rw [← EReal.coe_neg, softplus_coe, ← EReal.coe_mul, ← EReal.coe_mul]
    · rw [softplus_coe, ← EReal.coe_mul, ← EReal.coe_mul, ← EReal.coe_mul, ← EReal.coe_mul, ← EReal.coe_add]
      congr 1
      linear_combination (μ * t) * softplus_sub r

/-- A real number added and taken off again. -/
theorem cancel (s k : EReal) (a : ℝ) : (a : EReal) + (s - (k + a)) = s - k := by
  induction s <;> induction k <;> simp [sub_eq_add_neg, EReal.neg_add] <;> norm_cast <;> ring

/-- The two spellings of the mask cost's numerator: the reference's binary cross entropy split by the target, and the
    kernel's difference of two sums. -/
theorem numerator_eq (x μ : Fin 4096 → EReal) (t : Fin 4096 → ℝ) (hμ : ∀ p, μ p = 0 ∨ 0 < μ p ∧ μ p < ⊤ ∧ ⊥ < x p) :
    (∑ p, softplus (-(x p)) * μ p * (t p : EReal))
        + ((∑ p, softplus (x p) * μ p) - ∑ p, softplus (x p) * μ p * (t p : EReal))
      = (∑ p, softplus (x p) * μ p) - ∑ p, (t p : EReal) * (x p * μ p) := by
  choose a ha hk using fun p => term_eq (x p) (μ p) (t p) (hμ p)
  simp only [ha, hk, Finset.sum_add_distrib, sum_coe, cancel]

/-! ## The shares of a point -/

/-- The quotient of two real numbers whose divisor is not zero. -/
theorem div_real (a b : ℝ) (hb : b ≠ 0) : Ideal.div a b = ((a / b : ℝ) : EReal) := by
  rw [Ideal.div_coe hb, ← EReal.coe_mul, mul_one_div]

/-- A masked logit that is in the support, and one that is not. -/
theorem masked_of (x w : Fin 64 → ℝ) (q : Fin 64) :
    masked (fun q => (x q : EReal)) (fun q => (w q : EReal)) q = ((if 0 < w q then x q else lowR : ℝ) : EReal) := by
  unfold masked Ideal.cmp
  by_cases h : 0 < w q <;> simp [h, Scalar.select, low_eq]

/-- The greatest of 64 real numbers is one of them and none exceeds it. -/
theorem greatest (y : Fin 64 → ℝ) : ∃ q₁, (∀ q, y q ≤ y q₁)
    ∧ (Finset.univ : Finset (Fin 64)).fold max (⊥ : EReal) (fun q => (y q : EReal)) = (y q₁ : EReal) := by
  obtain ⟨q₁, -, h⟩ := Finset.exists_max_image (Finset.univ : Finset (Fin 64)) y ⟨0, Finset.mem_univ _⟩
  refine ⟨q₁, fun q => h q (Finset.mem_univ _), le_antisymm ?_ ?_⟩
  · exact Finset.fold_max_le _ |>.mpr ⟨bot_le, fun q hq => EReal.coe_le_coe_iff.mpr (h q hq)⟩
  · exact Finset.le_fold_max _ |>.mpr (Or.inr ⟨q₁, Finset.mem_univ _, le_rfl⟩)

/-- Real logits and weights: a query's share of a point is the same, exponents lowered by the greatest or not. -/
theorem portion_real (x w : Fin 64 → ℝ) (hw : ∀ q, w q = 0 ∨ tinyR ≤ w q) (hS : tinyR ≤ ∑ k, Real.exp (x k) * w k)
    (q : Fin 64) :
    portionRef (fun q => (x q : EReal)) (fun q => (w q : EReal)) q = portion (fun q => (x q : EReal)) (fun q => (w q : EReal)) q := by
  have hw0 : ∀ k, 0 ≤ w k := fun k => (hw k).elim (fun h => h.ge) tiny_pos.le.trans
  obtain ⟨q₁, hle, hmax⟩ := greatest fun k => if 0 < w k then x k else lowR
  generalize hM : (if 0 < w q₁ then x q₁ else lowR) = M at hmax
  have hfun : masked (fun q => (x q : EReal)) (fun q => (w q : EReal)) = fun k => ((if 0 < w k then x k else lowR : ℝ) : EReal) :=
    funext (masked_of x w)
  -- the terms of the two sums
  have hterm : ∀ k, Ideal.exp (x k) * (w k : EReal) = ((Real.exp (x k) * w k : ℝ) : EReal) := fun k => by
    rw [Ideal.exp_coe, ← EReal.coe_mul]
  have htermR : ∀ k, Ideal.exp (((if 0 < w k then x k else lowR : ℝ) : EReal) - (M : EReal)) * (w k : EReal)
      = ((Real.exp (-M) * (Real.exp (x k) * w k) : ℝ) : EReal) := fun k => by
    rw [← EReal.coe_sub, Ideal.exp_coe, ← EReal.coe_mul]
    rcases (hw0 k).eq_or_lt with h | h
    · rw [← h]; simp
    · rw [if_pos h, ← mul_assoc, ← Real.exp_add, neg_add_eq_sub]
  -- the lowered sum is at least the least divisor too: by the greatest logit's own weight, or because nothing was lowered
  have hSR : tinyR ≤ Real.exp (-M) * ∑ k, Real.exp (x k) * w k := by
    by_cases h : 0 < w q₁
    · rw [if_pos h] at hM
      subst hM
      have hone : Real.exp (x q₁) * w q₁ ≤ ∑ k, Real.exp (x k) * w k :=
        Finset.single_le_sum (f := fun k => Real.exp (x k) * w k) (fun k _ => mul_nonneg (Real.exp_pos _).le (hw0 k))
          (Finset.mem_univ q₁)
      calc tinyR ≤ w q₁ := (hw q₁).resolve_left h.ne'
        _ = Real.exp (-x q₁) * (Real.exp (x q₁) * w q₁) := by rw [← mul_assoc, ← Real.exp_add]; simp
        _ ≤ _ := mul_le_mul_of_nonneg_left hone (Real.exp_pos _).le
    · rw [if_neg h] at hM
      subst hM
      refine hS.trans (le_mul_of_one_le_left (tiny_pos.le.trans hS) ?_)
      exact Real.one_le_exp (neg_nonneg.mpr low_neg)
  have hpos := lt_of_lt_of_le tiny_pos hS
  have hposR := lt_of_lt_of_le tiny_pos hSR
  rw [portionRef, portion, hfun, hmax]
  simp only [hterm, htermR, sum_coe, ← Finset.mul_sum, tiny_eq]
  rw [max_eq_left (EReal.coe_le_coe_iff.mpr hS), max_eq_left (EReal.coe_le_coe_iff.mpr hSR), div_real _ _ hpos.ne',
    div_real _ _ hposR.ne', mul_div_mul_left _ _ (Real.exp_pos _).ne']

/-- A quotient by infinity is zero. -/
theorem div_top (a : EReal) : Ideal.div a ⊤ = 0 := by simp [Ideal.div]

/-- What a point's weights and logits have to be for the shares to agree. -/
def Fit (x μ : Fin 64 → EReal) (q : Fin 64) : Prop :=
  μ q = 0 ∨ (tiny ≤ μ q ∧ μ q < ⊤ ∧ ⊥ < x q ∧ tiny ≤ ∑ k, Ideal.exp (x k) * μ k)

theorem tiny_zero : (0 : EReal) < tiny := by rw [tiny_eq]; exact_mod_cast tiny_pos

/-- An exponential is not negative. -/
theorem exp_nonneg (x : EReal) : 0 ≤ Ideal.exp x := by
  induction x with
  | bot => simp
  | top => simp
  | coe r => rw [Ideal.exp_coe]; exact_mod_cast (Real.exp_pos r).le

/-- A supported logit is infinite: both shares are zero. -/
theorem portion_top (x μ : Fin 64 → EReal) (h : ∀ q, Fit x μ q) (q₀ : Fin 64) (hμ : μ q₀ ≠ 0) (hx : x q₀ = ⊤) (q : Fin 64) :
    portionRef x μ q = portion x μ q := by
  have hμ0 : ∀ k, 0 ≤ μ k := fun k => (h k).elim (fun e => e.ge) fun e => tiny_zero.le.trans e.1
  have hpos : 0 < μ q₀ := lt_of_le_of_ne (hμ0 q₀) hμ.symm
  have hm : masked x μ q₀ = ⊤ := by simp [masked, Ideal.cmp, Scalar.select, hpos, hx]
  have hM : (Finset.univ : Finset (Fin 64)).fold max ⊥ (masked x μ) = ⊤ :=
    top_le_iff.mp (Finset.le_fold_max _ |>.mpr (Or.inr ⟨q₀, Finset.mem_univ _, hm.ge⟩))
  have hS : ∑ k, Ideal.exp (x k) * μ k = ⊤ := by
    refine sum_top_of _ (fun k => EReal.bot_lt_zero.trans_le (mul_nonneg (exp_nonneg _) (hμ0 k))) q₀ ?_
    rw [hx]; simpa using EReal.top_mul_of_pos hpos
  have hz : ∀ k, Ideal.exp (masked x μ k - ⊤) * μ k = 0 := fun k => by simp
  rw [portionRef, portion, hM, hS]
  simp only [hz]
  rw [max_eq_left le_top, div_top, Finset.sum_const_zero, max_eq_right tiny_zero.le]
  simp [Ideal.div, tiny_zero.ne']

/-- A query's share of a point is the same in both spellings. -/
theorem portion_eq (x μ : Fin 64 → EReal) (h : ∀ q, Fit x μ q) (q : Fin 64) : portionRef x μ q = portion x μ q := by
  by_cases hall : ∀ k, μ k = 0
  · simp only [portionRef, portion, hall, mul_zero]
  obtain ⟨q₀, hq₀⟩ := not_forall.mp hall
  have hS := ((h q₀).resolve_left hq₀).2.2.2
  by_cases htop : ∃ k, μ k ≠ 0 ∧ x k = ⊤
  · obtain ⟨k, hk, hx⟩ := htop
    exact portion_top x μ h k hk hx q
  -- off the support a logit may as well be zero; on it all are real numbers
  have hreal : ∀ k, ∃ r w : ℝ, (w = 0 ∨ tinyR ≤ w) ∧ μ k = w ∧ Ideal.exp (x k) * μ k = Ideal.exp r * μ k
      ∧ masked x μ k = masked (fun _ => (r : EReal)) μ k := fun k => by
    rcases h k with h0 | ⟨h1, h2, h3, -⟩
    · exact ⟨0, 0, Or.inl rfl, by simpa using h0, by simp [h0], by simp [masked, Ideal.cmp, Scalar.select, h0]⟩
    · have hk : x k ≠ ⊤ := fun e => htop ⟨k, (tiny_zero.trans_le h1).ne', e⟩
      refine ⟨(x k).toReal, (μ k).toReal, Or.inr ?_, ?_, ?_, ?_⟩
      · rw [← EReal.coe_le_coe_iff, ← tiny_eq, EReal.coe_toReal h2.ne (EReal.bot_lt_zero.trans (tiny_zero.trans_le h1)).ne']
        exact h1
      · exact (EReal.coe_toReal h2.ne (EReal.bot_lt_zero.trans (tiny_zero.trans_le h1)).ne').symm
      · rw [EReal.coe_toReal hk h3.ne']
      · rw [EReal.coe_toReal hk h3.ne']; rfl
  choose r w hw hμ he hm using hreal
  have hmask : masked x μ = masked (fun k => (r k : EReal)) μ := funext fun k => hm k
  have hp := portion_real r w hw (by
    rw [← EReal.coe_le_coe_iff, ← tiny_eq, ← sum_coe]
    refine hS.trans_eq (Finset.sum_congr rfl fun k _ => ?_)
    rw [he, hμ, Ideal.exp_coe, EReal.coe_mul]) q
  rw [← show μ = fun k => (w k : EReal) from funext hμ] at hp
  rw [portionRef, portion, hmask]
  simp only [he]
  exact hp

/-! ## The cost -/

/-- Half a sum is the sum over two. -/
theorem div_two (y : EReal) : Ideal.div y two = half * y := by
  rw [two_eq, Ideal.div_coe two_ne_zero, half_eq, mul_comm]

/-- The data on which the two spellings agree: every point's weights and logits fit, and no presence is minus infinity. -/
structure Good (D : Data) : Prop where
  fit : ∀ q p, Fit (D.x · p) (D.mask · p) q
  t : ∀ e p, ⊥ < D.t e p

/-- The mask term is the same: with an infinite presence both quotients are by infinity, without one all are real. -/
theorem mask_eq (D : Data) (h : Good D) (e : Fin 32) (q : Fin 64) :
    Ideal.div ((∑ p, softplus (-(D.x q p)) * D.mask q p * D.t e p)
        + ((∑ p, softplus (D.x q p) * D.mask q p) - ∑ p, softplus (D.x q p) * D.mask q p * D.t e p)) (present D.t)
      = Ideal.div ((∑ p, softplus (D.x q p) * D.mask q p) - ∑ p, D.t e p * (D.x q p * D.mask q p)) (present D.t) := by
  by_cases htop : present D.t = ⊤
  · rw [htop, div_top, div_top]
  have hbot : ∀ e, ⊥ < ∑ p, D.t e p := fun e => sum_above _ fun p => h.t e p
  have hrow : ∑ p, D.t e p ≠ ⊤ := fun hr => htop (top_le_iff.mp ((le_max_left _ _).trans' (sum_top_of _ hbot e hr).ge))
  have ht : ∀ p, D.t e p = ((D.t e p).toReal : EReal) := fun p =>
    (EReal.coe_toReal (fun hp => hrow (sum_top_of _ (h.t e) p hp)) (h.t e p).ne').symm
  have hnum := numerator_eq (D.x q) (D.mask q) (fun p => (D.t e p).toReal) fun p =>
    (h.fit q p).imp_right fun g => ⟨tiny_zero.trans_le g.1, g.2.1, g.2.2.1⟩
  simp only [← ht] at hnum
  rw [hnum]

/-- The kernel's cost is the reference's. -/
theorem cost_eq (D : Data) (h : Good D) (e : Fin 32) (q : Fin 64) : costRef D e q = cost D e q := by
  have hport : ∀ p, portionRef (D.x · p) (D.mask · p) q = portion (D.x · p) (D.mask · p) q := fun p =>
    portion_eq _ _ (fun q => h.fit q p) q
  unfold costRef cost
  rw [mask_eq D h, div_two, Fin.sum_univ_two]
  simp only [hport]
  simp only [mul_comm]

end Cert.Cost

end
-- ==== Proof.Block.lean ====
/- What the kernel computes for one batch entry: one function of the entry's six blocks, which both halves of a grid point
   apply, and its value at an electron and a query — the cost of Cost.lean. -/
module

public import proofs.«01_k».proof.Proof.Cost
public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.KernelIdeal.Block

open Idealize.ShloMosaic Cert.KernelIdeal Cert.KernelIdeal.Gen Cert.Cost

variable {F : FTy → Type} [FloatOps F]

/-- One batch entry's costs, of its mask logits, support, segment values, segment presence, class logits with query
    positions, and electron positions. -/
def block (x μ : Vec F S1x64x4096 .f32) (sv t : Vec F S1x32x4096 .f32) (sm : Vec F S1x3x64 .f32) (tp : Vec F S1x32x2 .f32) :
    Vec F S1x32x64 .f32 :=
  k0_pay19 (k0_pay12 (k0_pay5 t) (k0_pay7 x μ t) k0_pay9 (k0_pay10 x μ))
    (k0_pay13 (k0_pay4 sv) (k0_pay8 x μ sv) k0_pay9 (k0_pay11 x μ)) (k0_pay14 sm) (k0_pay15 tp) (k0_pay16 sm) (k0_pay17 sm)
    (k0_pay18 tp)

/-- The first half of a grid point applies it. -/
theorem first_eq (x μ : Vec F S1x64x4096 .f32) (sv t : Vec F S1x32x4096 .f32) (sm : Vec F S1x3x64 .f32)
    (tp : Vec F S1x32x2 .f32) :
    k0_pay19 (k0_pay12 (k0_pay5 t) (k0_pay7 x μ t) k0_pay9 (k0_pay10 x μ))
      (k0_pay13 (k0_pay4 sv) (k0_pay8 x μ sv) k0_pay9 (k0_pay11 x μ)) (k0_pay14 sm) (k0_pay15 tp) (k0_pay16 sm)
      (k0_pay17 sm) (k0_pay18 tp) = block x μ sv t sm tp := rfl

/-- The second half of a grid point applies the same function. -/
theorem second_eq (x μ : Vec F S1x64x4096 .f32) (sv t : Vec F S1x32x4096 .f32) (sm : Vec F S1x3x64 .f32)
    (tp : Vec F S1x32x2 .f32) :
    k0_pay1 (k0_pay28 (k0_pay20 x) (k0_pay21 μ) t)
      (k0_pay29 (k0_pay24 (k0_pay20 x) (k0_pay21 μ) sv) (k0_pay26 (k0_pay20 x) (k0_pay21 μ)) (k0_pay27 sv)) (k0_pay32 sm)
      (k0_pay34 sm tp) (k0_pay35 sm tp) (k0_pay36 sm tp) (k0_pay37 sm tp) (k0_pay38 sm tp) (Scalar.ofBits .f32 0x3F000000#32)
      = block x μ sv t sm tp := rfl

/-- Zero less an absolute value, as the larger of the two signs negated. -/
theorem zero_sub_abs {φ : FTy} (x : Ideal φ) : (0 : EReal) - FloatOps.absf x = -max x (-x) := zero_sub _

/-! ## The parts at an index -/

/-- The masked logits times the segment presence, summed over the points. -/
theorem overlap_apply (x μ : Vec Ideal S1x64x4096 .f32) (t : Vec Ideal S1x32x4096 .f32) (e : Fin 32) (q : Fin 64) :
    k0_pay7 (F := Ideal) x μ t (ix2 e q) = ∑ p : Fin 4096, t (ix3 0 e p) * (x (ix3 0 q p) * μ (ix3 0 q p)) := by
  pointwise [k0_pay7, k0_pay5, k0_pay2, k0_pay3]

/-- A query's share of a point. -/
theorem portion_apply (x μ : Vec Ideal S1x64x4096 .f32) (q : Fin 64) (p : Fin 4096) :
    k0_pay6 (F := Ideal) x μ (ix2 q p) = portion (fun k => x (ix3 0 k p)) (fun k => μ (ix3 0 k p)) q := by
  pointwise [k0_pay6, k0_pay2, k0_pay3, portion, tiny]

/-- The softplus part: each query's masked softplus summed, less the overlap, over the present counts. -/
theorem mask_apply (x μ : Vec Ideal S1x64x4096 .f32) (t : Vec Ideal S1x32x4096 .f32) (e : Fin 32) (q : Fin 64) :
    k0_pay12 (F := Ideal) (k0_pay5 t) (k0_pay7 x μ t) k0_pay9 (k0_pay10 x μ) (ix2 e q)
      = Ideal.div ((∑ p : Fin 4096, softplus (x (ix3 0 q p)) * μ (ix3 0 q p))
          - ∑ p : Fin 4096, t (ix3 0 e p) * (x (ix3 0 q p) * μ (ix3 0 q p)))
        (present (fun e p => t (ix3 0 e p))) := by
  pointwise [k0_pay12, k0_pay10, k0_pay9, k0_pay5, k0_pay2, k0_pay3, overlap_apply, softplus, present]
  simp only [zero_sub_abs, Fin.sum_univ_one, Finset.univ_unique, Finset.sum_const, Finset.card_singleton, one_smul]

/-- The dice part. -/
theorem dice_apply (x μ : Vec Ideal S1x64x4096 .f32) (sv : Vec Ideal S1x32x4096 .f32) (e : Fin 32) (q : Fin 64) :
    k0_pay13 (F := Ideal) (k0_pay4 sv) (k0_pay8 x μ sv) k0_pay9 (k0_pay11 x μ) (ix2 e q)
      = dice (∑ p : Fin 4096, sv (ix3 0 e p) * portion (fun k => x (ix3 0 k p)) (fun k => μ (ix3 0 k p)) q)
        (∑ p : Fin 4096, portion (fun k => x (ix3 0 k p)) (fun k => μ (ix3 0 k p)) q) (∑ p : Fin 4096, sv (ix3 0 e p)) := by
  pointwise [k0_pay13, k0_pay11, k0_pay9, k0_pay8, k0_pay4, portion_apply, dice, two]

/-- The class part. -/
theorem class_apply (sm : Vec Ideal S1x3x64 .f32) (q : Fin 64) :
    k0_pay16 (F := Ideal) sm (ix2 0 q) = softplus (-(sm (ix3 0 0 q))) := by
  pointwise [k0_pay16, k0_pay14, softplus]
  rw [zero_sub_abs, zero_sub, neg_neg, max_comm (-(sm (ix3 0 0 q))) (sm (ix3 0 0 q))]

/-- The last step: the class, mask and dice parts and half the two coordinates' huber distances, added. -/
theorem join_apply (a b : FVec Ideal S32x64 .f32) (sm : Vec Ideal S1x3x64 .f32) (tp : Vec Ideal S1x32x2 .f32)
    (e : Fin 32) (q : Fin 64) :
    k0_pay19 (F := Ideal) a b (k0_pay14 sm) (k0_pay15 tp) (k0_pay16 sm) (k0_pay17 sm) (k0_pay18 tp) (ix3 0 e q)
      = softplus (-(sm (ix3 0 0 q))) + a (ix2 e q) + b (ix2 e q)
        + half * (huber (sm (ix3 0 1 q) - tp (ix3 0 e 0)) + huber (sm (ix3 0 2 q) - tp (ix3 0 e 1))) := by
  pointwise [k0_pay19, k0_pay18, k0_pay17, k0_pay15, k0_pay14, class_apply, huber, half]
  simp only [abs_eq]

/-- One entry's data, of its blocks. -/
def data (x μ : Vec Ideal S1x64x4096 .f32) (sv t : Vec Ideal S1x32x4096 .f32) (sm : Vec Ideal S1x3x64 .f32)
    (tp : Vec Ideal S1x32x2 .f32) : Data where
  cls q := sm (ix3 0 0 q)
  x q p := x (ix3 0 q p)
  mask q p := μ (ix3 0 q p)
  sv e p := sv (ix3 0 e p)
  t e p := t (ix3 0 e p)
  px q k := sm (ix3 0 k.succ q)
  py e k := tp (ix3 0 e k)

/-- The function's value at an electron and a query is the cost of the entry's data. -/
theorem block_apply (x μ : Vec Ideal S1x64x4096 .f32) (sv t : Vec Ideal S1x32x4096 .f32) (sm : Vec Ideal S1x3x64 .f32)
    (tp : Vec Ideal S1x32x2 .f32) (e : Fin 32) (q : Fin 64) :
    block (F := Ideal) x μ sv t sm tp (ix3 0 e q) = cost (data x μ sv t sm tp) e q := by
  unfold block
  rw [join_apply, mask_apply, dice_apply]
  rfl

end Cert.KernelIdeal.Block

end
-- ==== Proof.Point.lean ====
/- What one grid point leaves in the result's staging buffer: the block function of Block.lean, once for each of the point's
   two batch entries. -/
module

public import proofs.«01_k».proof.Proof.Block
public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Point

open Idealize.ShloMosaic Idealize.ShloMosaic.TcCoe Idealize.SL.Sem
open Cert.KernelIdeal Cert.KernelIdeal.Gen Cert.KernelIdeal.Block
open Idealize.ShloMosaic.Pipeline (Dat)

/-- Entry `s` of a stack of matrices, as a stack of one. -/
def slab {α : Type} {n b d : Nat} (X : (⟨3, ![n, b, d]⟩ : Shape).Idx → α) (s : Fin n) :
    (⟨3, ![1, b, d]⟩ : Shape).Idx → α := fun j => X (ix3 s (j 1) (j 2))

/-- A load of one entry of a stack reads that entry. -/
theorem ld_slab {Val : EltTy → Type} {φ : EltTy} {n b d : Nat} (X : (⟨3, ![n, b, d]⟩ : Shape).Idx → Val φ) (s : Fin n)
    (off : Fin 3 → Nat) (h : off = ![s.val, 0, 0])
    (inb : ∀ a, off a + (![1, b, d] : Fin 3 → Nat) a ≤ (⟨3, ![n, b, d]⟩ : Shape).size a) :
    View.ld X (Rect.unit (s := ⟨3, ![n, b, d]⟩) off ![1, b, d] inb) = slab X s := by
  subst h
  funext j
  have h0 : (j 0).val < 1 := (j 0).isLt
  refine congrArg X (funext fun a => Fin.ext ?_)
  match a with
  | ⟨0, _⟩ => show s.val + 1 * (j 0).val = s.val; omega
  | ⟨1, _⟩ => show 0 + 1 * (j 1).val = (j 1).val; omega
  | ⟨2, _⟩ => show 0 + 1 * (j 2).val = (j 2).val; omega

variable {F : FTy → Type} [FloatOps F]
variable (m : (ℓ : Loc nD τ sig) → Buf (Elt F) ℓ)

/-- The batch entry a grid point's half works on. -/
def row (t : Fin cfg0.N) (s : Fin 2) : Fin 16 := ⟨2 * t.val + s.val, by have := t.isLt; have h : cfg0.N = 8 := N_0; omega⟩

/-- Where each half's loads of the class rows and electron positions start. -/
theorem start_eq : ∀ t : Fin cfg0.N, ∀ s : Fin 2,
    BitVec.toNat (Scalar.indexCast (Scalar.addi (Scalar.muli 2#32 (BitVec.ofNat 32 (grid0.coords t 0).val)) (BitVec.ofNat 32 s.val)))
      = 2 * t.val + s.val :=
  (by decide +kernel : ∀ t : Fin grid0.N, ∀ s : Fin 2,
    BitVec.toNat (Scalar.indexCast (Scalar.addi (Scalar.muli 2#32 (BitVec.ofNat 32 (grid0.coords t 0).val)) (BitVec.ofNat 32 s.val)))
      = 2 * t.val + s.val)

/-- One half's costs. -/
def half (c : Dev nD) (t : Fin cfg0.N) (s : Fin 2) : Vec F S1x32x64 .f32 :=
  block (slab (iblk m c 2 t : Vec F S2x64x4096 .f32) s) (slab (iblk m c 3 t : Vec F S2x64x4096 .f32) s)
    (slab (iblk m c 4 t : Vec F S2x32x4096 .f32) s) (slab (iblk m c 5 t : Vec F S2x32x4096 .f32) s)
    (slab (iblk m c 0 t : Vec F S16x3x64 .f32) (row t s)) (slab (iblk m c 1 t : Vec F S16x32x2 .f32) (row t s))

/-- A half's costs, of loads that read its entry. -/
theorem half_of_loads (c : Dev nD) (t : Fin cfg0.N) (s : Fin 2) {x μ : Vec F S1x64x4096 .f32} {sv p : Vec F S1x32x4096 .f32}
    {sm : Vec F S1x3x64 .f32} {tp : Vec F S1x32x2 .f32} (hx : x = slab (iblk m c 2 t : Vec F S2x64x4096 .f32) s)
    (hμ : μ = slab (iblk m c 3 t : Vec F S2x64x4096 .f32) s) (hsv : sv = slab (iblk m c 4 t : Vec F S2x32x4096 .f32) s)
    (hp : p = slab (iblk m c 5 t : Vec F S2x32x4096 .f32) s) (hsm : sm = slab (iblk m c 0 t : Vec F S16x3x64 .f32) (row t s))
    (htp : tp = slab (iblk m c 1 t : Vec F S16x32x2 .f32) (row t s)) : block x μ sv p sm tp = half m c t s := by
  subst hx hμ hsv hp hsm htp; rfl

/-- The point's two halves stacked. -/
def halves (c : Dev nD) (t : Fin cfg0.N) : Vec F S2x32x64 .f32 := fun y => half m c t (y 0) (ix3 0 (y 1) (y 2))

/-- A half read through its place in the stack. -/
theorem half_eq (c : Dev nD) (t : Fin cfg0.N) (s : Fin 2) (off : Fin 3 → Nat) (h : off = ![s.val, 0, 0])
    (inb : ∀ a, off a + (![1, 32, 64] : Fin 3 → Nat) a ≤ S2x32x64.size a) (x : S1x32x64.Idx) :
    half m c t s x = halves m c t ((Rect.unit (s := S2x32x64) off ![1, 32, 64] inb).emb x) := by
  subst h
  have h0 : (x 0).val < 1 := (x 0).isLt
  have e0 : ((Rect.unit (s := S2x32x64) ![s.val, 0, 0] ![1, 32, 64] inb).emb x) 0 = s :=
    Fin.ext (by show s.val + 1 * (x 0).val = s.val; omega)
  unfold halves
  rw [e0]
  refine congrArg _ (funext fun a => Fin.ext ?_)
  match a with
  | ⟨0, _⟩ => show (x 0).val = 0; omega
  | ⟨1, _⟩ => show (x 1).val = 0 + 1 * (x 1).val; omega
  | ⟨2, _⟩ => show (x 2).val = 0 + 1 * (x 2).val; omega

/-- What the point leaves is its two halves. -/
theorem outsAt_eq (c : Dev nD) (t : Fin cfg0.N) : outsAt0 m c t = halves m c t := by
  have hcov := cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)
  unfold outsAt0 out0_A_6
  rw [View.read_writes_eq_canon _ _ _ hcov]
  funext y
  refine View.canon_apply_of_pieces _ _ ?_ y (hcov y)
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread]
  have hs (s : Fin 2) : (![BitVec.toNat (Scalar.indexCast (Scalar.addi (Scalar.muli 2#32
      (BitVec.ofNat 32 (grid0.coords t 0).val)) (BitVec.ofNat 32 s.val))), 0, 0] : Fin 3 → Nat) = ![(row t s).val, 0, 0] := by
    rw [start_eq]; rfl
  refine List.forall_mem_cons.mpr ⟨fun x => ?_, List.forall_mem_cons.mpr ⟨fun x => ?_, fun _ h => absurd h List.not_mem_nil⟩⟩
  · exact (congrFun ((second_eq _ _ _ _ _ _).trans (half_of_loads m c t 1 (ld_slab _ (1 : Fin 2) _ rfl _)
      (ld_slab _ (1 : Fin 2) _ rfl _) (ld_slab _ (1 : Fin 2) _ rfl _) (ld_slab _ (1 : Fin 2) _ rfl _)
      (ld_slab _ (row t 1) _ (hs 1) _) (ld_slab _ (row t 1) _ (hs 1) _))) x).trans
      (half_eq m c t 1 ![1, 0, 0] rfl inb_S2x32x64_S1x32x64_1_0_0 x)
  · exact (congrFun ((first_eq _ _ _ _ _ _).trans (half_of_loads m c t 0 (ld_slab _ (0 : Fin 2) _ rfl _)
      (ld_slab _ (0 : Fin 2) _ rfl _) (ld_slab _ (0 : Fin 2) _ rfl _) (ld_slab _ (0 : Fin 2) _ rfl _)
      (ld_slab _ (row t 0) _ (hs 0) _) (ld_slab _ (row t 0) _ (hs 0) _))) x).trans
      (half_eq m c t 0 ![0, 0, 0] rfl inb_S2x32x64_S1x32x64_0_0_0 x)

end Cert.KernelIdeal.Point

end
-- ==== Proof.Array.lean ====
/- What the kernel's result array holds after every grid point: at each batch entry the block function of that entry's slices
   of the arrays the region finds. -/
module

public import proofs.«01_k».proof.Proof.Point

@[expose] public section

set_option maxRecDepth 16384

noncomputable section

namespace Cert.KernelIdeal.Array

open Idealize.ShloMosaic Idealize.ShloMosaic.TcCoe Idealize.SL.Sem
open Cert.KernelIdeal Cert.KernelIdeal.Gen Cert.KernelIdeal.Block Cert.KernelIdeal.Point
open Idealize.ShloMosaic.Pipeline (Dat)

variable {F : FTy → Type} [FloatOps F]
variable (m : (ℓ : Loc nD τ sig) → Buf (Elt F) ℓ)

/-- Where the windows' blocks start: the two small arrays are whole, the others advance two entries a point. -/
theorem index_eq : ∀ t : Fin cfg0.N,
    win0_0.index t = ![0, 0, 0] ∧ win0_1.index t = ![0, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] :=
  (by decide +kernel : ∀ t : Fin grid0.N,
    win0_0.index t = ![0, 0, 0] ∧ win0_1.index t = ![0, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0])

/-- Two indices of a stack with the same coordinates are one. -/
theorem idx_ext {n b d : Nat} {i j : (⟨3, ![n, b, d]⟩ : Shape).Idx} (h0 : (i 0).val = (j 0).val) (h1 : (i 1).val = (j 1).val)
    (h2 : (i 2).val = (j 2).val) : i = j :=
  funext fun a => Fin.ext (match a with | ⟨0, _⟩ => h0 | ⟨1, _⟩ => h1 | ⟨2, _⟩ => h2)

/-- An entry of the class rows' window is that entry of the array. -/
theorem slab_w0 (c : Dev nD) (t : Fin cfg0.N) (b : Fin 16) :
    slab (iblk m c 0 t : Vec F S16x3x64 .f32) b = slab (V m c main_call0_v7 : Vec F S16x3x64 .f32) b := by
  funext j
  have e := (index_eq t).1
  refine congrArg (V m c main_call0_v7) (idx_ext ?_ ?_ ?_)
  · show win0_0.index t 0 * 16 + 1 * b.val = b.val; rw [e]; show 0 * 16 + 1 * b.val = b.val; omega
  · show win0_0.index t 1 * 3 + 1 * (j 1).val = (j 1).val; rw [e]; show 0 * 3 + 1 * (j 1).val = (j 1).val; omega
  · show win0_0.index t 2 * 64 + 1 * (j 2).val = (j 2).val; rw [e]; show 0 * 64 + 1 * (j 2).val = (j 2).val; omega

/-- An entry of the electron positions' window is that entry of the array. -/
theorem slab_w1 (c : Dev nD) (t : Fin cfg0.N) (b : Fin 16) :
    slab (iblk m c 1 t : Vec F S16x32x2 .f32) b = slab (V m c main_call0_v8 : Vec F S16x32x2 .f32) b := by
  funext j
  have e := (index_eq t).2.1
  refine congrArg (V m c main_call0_v8) (idx_ext ?_ ?_ ?_)
  · show win0_1.index t 0 * 16 + 1 * b.val = b.val; rw [e]; show 0 * 16 + 1 * b.val = b.val; omega
  · show win0_1.index t 1 * 32 + 1 * (j 1).val = (j 1).val; rw [e]; show 0 * 32 + 1 * (j 1).val = (j 1).val; omega
  · show win0_1.index t 2 * 2 + 1 * (j 2).val = (j 2).val; rw [e]; show 0 * 2 + 1 * (j 2).val = (j 2).val; omega

/-- An entry of a block of two entries of a stack, starting at entry `2t`, is the stack's entry `2t + s`. -/
theorem slab_block {α : Type} {b d : Nat} (X : (⟨3, ![16, b, d]⟩ : Shape).Idx → α) (t : Fin cfg0.N) (s : Fin 2)
    (at_ : (⟨3, ![2, b, d]⟩ : Shape).Idx → (⟨3, ![16, b, d]⟩ : Shape).Idx) {ix : Fin 3 → Nat} (hix : ix = ![t.val, 0, 0])
    (h0 : ∀ j, (at_ j 0).val = ix 0 * 2 + 1 * (j 0).val) (h1 : ∀ j, (at_ j 1).val = ix 1 * b + 1 * (j 1).val)
    (h2 : ∀ j, (at_ j 2).val = ix 2 * d + 1 * (j 2).val) : slab (fun j => X (at_ j)) s = slab X (row t s) := by
  subst hix
  funext j
  refine congrArg X (idx_ext ?_ ?_ ?_)
  · rw [h0]; show t.val * 2 + 1 * s.val = 2 * t.val + s.val; omega
  · rw [h1]; show 0 * b + 1 * (j 1).val = (j 1).val; omega
  · rw [h2]; show 0 * d + 1 * (j 2).val = (j 2).val; omega

/-- The mask logits' window. -/
theorem slab_w2 (c : Dev nD) (t : Fin cfg0.N) (s : Fin 2) :
    slab (iblk m c 2 t : Vec F S2x64x4096 .f32) s = slab (V m c main_call0_v0 : Vec F S16x64x4096 .f32) (row t s) :=
  slab_block (V m c main_call0_v0 : Vec F S16x64x4096 .f32) t s ((cfg0.win 2).blk t).view.emb (index_eq t).2.2.1 (fun _ => rfl) (fun _ => rfl) (fun _ => rfl)

/-- The mask support's window. -/
theorem slab_w3 (c : Dev nD) (t : Fin cfg0.N) (s : Fin 2) :
    slab (iblk m c 3 t : Vec F S2x64x4096 .f32) s = slab (V m c main_call0_v1 : Vec F S16x64x4096 .f32) (row t s) :=
  slab_block (V m c main_call0_v1 : Vec F S16x64x4096 .f32) t s ((cfg0.win 3).blk t).view.emb (index_eq t).2.2.2.1 (fun _ => rfl) (fun _ => rfl) (fun _ => rfl)

/-- The segment values' window. -/
theorem slab_w4 (c : Dev nD) (t : Fin cfg0.N) (s : Fin 2) :
    slab (iblk m c 4 t : Vec F S2x32x4096 .f32) s = slab (V m c main_call0_v2 : Vec F S16x32x4096 .f32) (row t s) :=
  slab_block (V m c main_call0_v2 : Vec F S16x32x4096 .f32) t s ((cfg0.win 4).blk t).view.emb (index_eq t).2.2.2.2.1 (fun _ => rfl) (fun _ => rfl) (fun _ => rfl)

/-- The segment presence's window. -/
theorem slab_w5 (c : Dev nD) (t : Fin cfg0.N) (s : Fin 2) :
    slab (iblk m c 5 t : Vec F S2x32x4096 .f32) s = slab (V m c main_call0_v3 : Vec F S16x32x4096 .f32) (row t s) :=
  slab_block (V m c main_call0_v3 : Vec F S16x32x4096 .f32) t s ((cfg0.win 5).blk t).view.emb (index_eq t).2.2.2.2.2.1 (fun _ => rfl) (fun _ => rfl) (fun _ => rfl)

/-- One batch entry's costs, of the arrays the region finds. -/
def entry (c : Dev nD) (b : Fin 16) : Vec F S1x32x64 .f32 :=
  block (slab (V m c main_call0_v0 : Vec F S16x64x4096 .f32) b) (slab (V m c main_call0_v1 : Vec F S16x64x4096 .f32) b)
    (slab (V m c main_call0_v2 : Vec F S16x32x4096 .f32) b) (slab (V m c main_call0_v3 : Vec F S16x32x4096 .f32) b)
    (slab (V m c main_call0_v7 : Vec F S16x3x64 .f32) b) (slab (V m c main_call0_v8 : Vec F S16x32x2 .f32) b)

/-- Every entry's costs: what the result array is shown to hold. -/
def costs (c : Dev nD) : Vec F S16x32x64 .f32 := fun i => entry m c (i 0) (ix3 0 (i 1) (i 2))

/-- A point's half is the costs of its entry. -/
theorem half_entry (c : Dev nD) (t : Fin cfg0.N) (s : Fin 2) : half m c t s = entry m c (row t s) := by
  unfold half entry
  rw [slab_w0, slab_w1, slab_w2, slab_w3, slab_w4, slab_w5]

/-- What a point writes back is its block of the costs. -/
theorem flushed_eq (c : Dev nD) (t : Fin cfg0.N) :
    (dats m 0 c).flushed 6 t = ((cfg0.win 6).blk t).view.read (Elt F) (costs m c) := by
  show (cfg0.win 6).cut (grid0.coords t) ((dats m 0 c).after 6 t) = _
  rw [after0_6, outsAt_eq]
  funext (y : S2x32x64.Idx)
  have h : slab (fun j => costs m c (((cfg0.win 6).blk t).view.emb j)) (y 0) = slab (costs m c) (row t (y 0)) :=
    slab_block (costs m c) t (y 0) ((cfg0.win 6).blk t).view.emb (index_eq t).2.2.2.2.2.2 (fun _ => rfl) (fun _ => rfl) (fun _ => rfl)
  show half m c t (y 0) (ix3 0 (y 1) (y 2)) = costs m c (((cfg0.win 6).blk t).view.emb y)
  refine (congrFun (half_entry m c t (y 0)) (ix3 0 (y 1) (y 2))).trans ?_
  refine (congrFun h (ix3 0 (y 1) (y 2))).symm.trans ?_
  exact congrArg (fun z => costs m c (((cfg0.win 6).blk t).view.emb z)) (idx_ext (i := ix3 (y 0) (y 1) (y 2)) rfl rfl rfl)

/-- An index of the result array is in point `t`'s block where its entry is one of the point's two. -/
theorem mem_blk (t : Fin cfg0.N) (i : S16x32x64.Idx) :
    i ∈ ((cfg0.win 6).blk t).view.set ↔ t.val * 2 ≤ (i 0).val ∧ (i 0).val < t.val * 2 + 2 := by
  show i ∈ ((View.whole main_call0_v9).slice (win0_6.rect t)).set ↔ _
  rw [View.set_slice_whole, Rect.mem_set_unit]
  have e := (index_eq t).2.2.2.2.2.2
  have h1 : (i 1).val < 32 := (i 1).isLt
  have h2 : (i 2).val < 64 := (i 2).isLt
  refine ⟨fun h => ?_, fun h a => ?_⟩
  · have h' : win0_6.index t 0 * 2 ≤ (i 0).val ∧ (i 0).val < win0_6.index t 0 * 2 + 2 := h 0
    rw [e] at h'; exact h'
  · match a with
    | ⟨0, _⟩ => show win0_6.index t 0 * 2 ≤ (i 0).val ∧ (i 0).val < win0_6.index t 0 * 2 + 2
                rw [e]; exact h
    | ⟨1, _⟩ => show win0_6.index t 1 * 32 ≤ (i 1).val ∧ (i 1).val < win0_6.index t 1 * 32 + 32
                rw [e]; show 0 * 32 ≤ (i 1).val ∧ (i 1).val < 0 * 32 + 32; omega
    | ⟨2, _⟩ => show win0_6.index t 2 * 64 ≤ (i 2).val ∧ (i 2).val < win0_6.index t 2 * 64 + 64
                rw [e]; show 0 * 64 ≤ (i 2).val ∧ (i 2).val < 0 * 64 + 64; omega

/-- The points' blocks cover the result array. -/
theorem cover (i : S16x32x64.Idx) :
    ∃ t : Fin cfg0.N, (cfg0.win 6).flush t = true ∧ i ∈ ((cfg0.win 6).blk t).view.set := by
  have h0 : (i 0).val < 16 := (i 0).isLt
  have hN : cfg0.N = 8 := N_0
  refine ⟨⟨(i 0).val / 2, by omega⟩, flush0_6 _, ?_⟩
  rw [mem_blk]
  dsimp only
  omega

/-- The result array after every point is the costs. -/
theorem final (c : Dev nD) : (dats m 0 c).arrAt 6 cfg0.N = costs m c :=
  (dats m 0 c).arrAt_eq_of_cover 6 (costs m c) (fun t _ => flushed_eq m c t) cover

end Cert.KernelIdeal.Array

end
-- ==== Proof.Host.lean ====
/- The host lines around the kernel: what the region finds in each array, as the arguments rearranged; and the kernel's run,
   its result the costs transposed. -/
module

public import proofs.«01_k».proof.Proof.Array
public import Idealize.ShloMosaic.Lib.StableHlo.Run
public import Idealize.ShloMosaic.Lib.Claim

@[expose] public section

set_option maxRecDepth 16384

noncomputable section

namespace Cert.KernelIdeal.Host

open Idealize.ShloMosaic Idealize.ShloMosaic.TcCoe Idealize.SL.Sem
open Cert.KernelIdeal Cert.KernelIdeal.Gen Cert.KernelIdeal.Block Cert.KernelIdeal.Point Cert.KernelIdeal.Array
open Idealize.ShloMosaic.Pipeline (Dat)

variable {F : FTy → Type} [FloatOps F]
variable (m : (ℓ : Loc nD τ sig) → Buf (Elt F) ℓ) (ρ : Dev nD → PrngReg)

/-- The mask logits, queries first. -/
theorem V_x (c : Dev nD) : (V m c main_call0_v0 : Vec F S16x64x4096 .f32)
    = transpose S16x64x4096 [0, 2, 1] (m ((c : Thread nD τ).loc main_arg1) : Vec F S16x4096x64 .f32)
        transposes_S16x4096x64_S16x64x4096_0_2_1 := by
  simp only [V, V0, hostOps0, List.flatten_cons, List.flatten_nil, List.append_nil, List.cons_append, List.nil_append]
  after_results; rfl

/-- The mask support, queries first. -/
theorem V_mask (c : Dev nD) : (V m c main_call0_v1 : Vec F S16x64x4096 .f32)
    = transpose S16x64x4096 [0, 2, 1] (m ((c : Thread nD τ).loc main_arg2) : Vec F S16x4096x64 .f32)
        transposes_S16x4096x64_S16x64x4096_0_2_1 := by
  simp only [V, V0, hostOps0, List.flatten_cons, List.flatten_nil, List.append_nil, List.cons_append, List.nil_append]
  after_results; rfl

/-- The segment values, electrons first. -/
theorem V_sv (c : Dev nD) : (V m c main_call0_v2 : Vec F S16x32x4096 .f32)
    = transpose S16x32x4096 [0, 2, 1] (m ((c : Thread nD τ).loc main_arg3) : Vec F S16x4096x32 .f32)
        transposes_S16x4096x32_S16x32x4096_0_2_1 := by
  simp only [V, V0, hostOps0, List.flatten_cons, List.flatten_nil, List.append_nil, List.cons_append, List.nil_append]
  after_results; rfl

/-- The segment presence, electrons first. -/
theorem V_t (c : Dev nD) : (V m c main_call0_v3 : Vec F S16x32x4096 .f32)
    = transpose S16x32x4096 [0, 2, 1] (m ((c : Thread nD τ).loc main_arg4) : Vec F S16x4096x32 .f32)
        transposes_S16x4096x32_S16x32x4096_0_2_1 := by
  simp only [V, V0, hostOps0, List.flatten_cons, List.flatten_nil, List.append_nil, List.cons_append, List.nil_append]
  after_results; rfl

/-- The class logits above the two coordinates of the query positions. -/
theorem V_sm (c : Dev nD) : (V m c main_call0_v7 : Vec F S16x3x64 .f32)
    = concatenate S16x3x64 1 [⟨S16x1x64, shapeCast S16x1x64 (m ((c : Thread nD τ).loc main_arg0) : Vec F S1024 .f32) shapeCasts_S1024_S16x1x64⟩,
        ⟨S16x2x64, transpose S16x2x64 [0, 2, 1] (shapeCast S16x64x2 (m ((c : Thread nD τ).loc main_arg5) : Vec F S1024x2 .f32) shapeCasts_S1024x2_S16x64x2)
          transposes_S16x64x2_S16x2x64_0_2_1⟩] concatenates_S16x1x64_S16x2x64_S16x3x64_d1 := by
  simp only [V, V0, hostOps0, List.flatten_cons, List.flatten_nil, List.append_nil, List.cons_append, List.nil_append]
  after_results; rfl

/-- The electron positions by entry. -/
theorem V_tp (c : Dev nD) : (V m c main_call0_v8 : Vec F S16x32x2 .f32)
    = shapeCast S16x32x2 (m ((c : Thread nD τ).loc main_arg6) : Vec F S512x2 .f32) shapeCasts_S512x2_S16x32x2 := by
  simp only [V, V0, hostOps0, List.flatten_cons, List.flatten_nil, List.append_nil, List.cons_append, List.nil_append]
  after_results; rfl

/-- The kernel's result: the costs, queries before electrons. -/
def result (c : Dev nD) : Vec F S16x64x32 .f32 := transpose S16x64x32 [0, 2, 1] (costs m c) transposes_S16x32x64_S16x64x32_0_2_1

/-- The line after the region leaves the result. -/
theorem tail_eq (c : Dev nD) :
    Pipeline.afterTail₀ cfgs (dats m) 0 (V0 m) [hostOps1] c main_v0 = (result m c : Vec F S16x64x32 .f32) := by
  unfold Pipeline.afterTail₀ result
  rw [← final m c, ← Pipeline.withArrays_arr spec0 winFacts0.arr_inj c (V0 m c) (fun w => (dats m 0 c).arrAt w cfg0.N) 6]
  simp only [hostOps1, List.flatten_cons, List.flatten_nil, List.append_nil, List.cons_append, List.nil_append]
  after_results; rfl

/-- The kernel's run: the result, the arguments unchanged. -/
theorem run : θ_run defs (onTc (τ := τ) (main (F := F))) ⟨m, fun _ => 0, ρ⟩ (fun r => ∀ c : Dev nD,
      r.2.mem ((c.tc : Thread nD τ).loc main_v0) = (result m c : Vec F S16x64x32 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.1 c).2 main_v0 (by decide) |>.trans (tail_eq m c), h.2 c⟩)
    (θ_run_and (run_main m ρ) (unchanged m ρ))

end Cert.KernelIdeal.Host

end
-- ==== Proof.Batch.lean ====
/- One batch entry's data, of the nine arguments' arrays: 64 queries, 32 electrons and 4096 points an entry. -/
module

public import proofs.«01_k».proof.Proof.Cost
public import Idealize.ShloMosaic.Lib.Pointwise

@[expose] public section

noncomputable section

namespace Cert.Cost

open Idealize.ShloMosaic

/-- Query `q` of entry `b` among all entries' queries. -/
def queryAt (b : Fin 16) (q : Fin 64) : Fin 1024 := ⟨b.val * 64 + q.val, by omega⟩

/-- Electron `e` of entry `b` among all entries' electrons. -/
def electronAt (b : Fin 16) (e : Fin 32) : Fin 512 := ⟨b.val * 32 + e.val, by omega⟩

/-- Entry `b`'s data: class logits, mask logits, mask support, segment values, segment presence, query positions and
    electron positions. -/
def batch (a0 : (⟨1, ![1024]⟩ : Shape).Idx → EReal) (a1 a2 : (⟨3, ![16, 4096, 64]⟩ : Shape).Idx → EReal)
    (a3 a4 : (⟨3, ![16, 4096, 32]⟩ : Shape).Idx → EReal) (a5 : (⟨2, ![1024, 2]⟩ : Shape).Idx → EReal)
    (a6 : (⟨2, ![512, 2]⟩ : Shape).Idx → EReal) (b : Fin 16) : Data where
  cls q := a0 (ix1 (queryAt b q))
  x q p := a1 (ix3 b p q)
  mask q p := a2 (ix3 b p q)
  sv e p := a3 (ix3 b p e)
  t e p := a4 (ix3 b p e)
  px q k := a5 (ix2 (queryAt b q) k)
  py e k := a6 (ix2 (electronAt b e) k)

end Cert.Cost

end
-- ==== Proof.KernelValue.lean ====
/- The kernel's result at an index: the cost of the index's batch entry, at its electron and query. -/
module

public import proofs.«01_k».proof.Proof.Host
public import proofs.«01_k».proof.Proof.Batch

@[expose] public section

set_option maxRecDepth 16384

noncomputable section

namespace Cert.KernelIdeal.Host

open Idealize.ShloMosaic Idealize.ShloMosaic.TcCoe Idealize.SL.Sem
open Cert.KernelIdeal Cert.KernelIdeal.Gen Cert.KernelIdeal.Block Cert.KernelIdeal.Point Cert.KernelIdeal.Array Cert.Cost

variable {α : Type}

/-- Class logits laid out by entry, read at an entry and a query. -/
theorem class_at (a : S1024.Idx → α) (b : Fin 16) (q : Fin 64) :
    shapeCast S16x1x64 a shapeCasts_S1024_S16x1x64 (ix3 b 0 q) = a (ix1 (queryAt b q)) := by
  pointwise [queryAt]

/-- Query positions laid out by entry, read at an entry, a query and a coordinate. -/
theorem query_at (a : S1024x2.Idx → α) (b : Fin 16) (q : Fin 64) (k : Fin 2) :
    shapeCast S16x64x2 a shapeCasts_S1024x2_S16x64x2 (ix3 b q k) = a (ix2 (queryAt b q) k) := by
  pointwise [queryAt]

/-- Electron positions laid out by entry, read at an entry, an electron and a coordinate. -/
theorem electron_at (a : S512x2.Idx → α) (b : Fin 16) (e : Fin 32) (k : Fin 2) :
    shapeCast S16x32x2 a shapeCasts_S512x2_S16x32x2 (ix3 b e k) = a (ix2 (electronAt b e) k) := by
  pointwise [electronAt]

/-- Row 0 of the class logits above the query positions is the class logits. -/
theorem stack_class (a0 : S1024.Idx → α) (a5 : S1024x2.Idx → α) (b : Fin 16) (q : Fin 64) :
    concatenate S16x3x64 1 [⟨S16x1x64, shapeCast S16x1x64 a0 shapeCasts_S1024_S16x1x64⟩,
        ⟨S16x2x64, transpose S16x2x64 [0, 2, 1] (shapeCast S16x64x2 a5 shapeCasts_S1024x2_S16x64x2)
          transposes_S16x64x2_S16x2x64_0_2_1⟩] concatenates_S16x1x64_S16x2x64_S16x3x64_d1 (ix3 b 0 q)
      = a0 (ix1 (queryAt b q)) := by
  pointwise [class_at]

/-- The rows below are the query positions' coordinates. -/
theorem stack_query (a0 : S1024.Idx → α) (a5 : S1024x2.Idx → α) (b : Fin 16) (q : Fin 64) (k : Fin 2) :
    concatenate S16x3x64 1 [⟨S16x1x64, shapeCast S16x1x64 a0 shapeCasts_S1024_S16x1x64⟩,
        ⟨S16x2x64, transpose S16x2x64 [0, 2, 1] (shapeCast S16x64x2 a5 shapeCasts_S1024x2_S16x64x2)
          transposes_S16x64x2_S16x2x64_0_2_1⟩] concatenates_S16x1x64_S16x2x64_S16x3x64_d1 (ix3 b k.succ q)
      = a5 (ix2 (queryAt b q) k) := by
  pointwise [query_at]
  exact dif_neg (by rw [Fin.val_succ]; omega)

variable (m : (ℓ : Loc nD τ sig) → Buf (Elt Ideal) ℓ)

/-- Entry `b`'s data, of the kernel's arguments. -/
def args (c : Dev nD) (b : Fin 16) : Data :=
  batch (m ((c : Thread nD τ).loc main_arg0) : Vec Ideal S1024 .f32) (m ((c : Thread nD τ).loc main_arg1) : Vec Ideal S16x4096x64 .f32)
    (m ((c : Thread nD τ).loc main_arg2) : Vec Ideal S16x4096x64 .f32) (m ((c : Thread nD τ).loc main_arg3) : Vec Ideal S16x4096x32 .f32)
    (m ((c : Thread nD τ).loc main_arg4) : Vec Ideal S16x4096x32 .f32) (m ((c : Thread nD τ).loc main_arg5) : Vec Ideal S1024x2 .f32)
    (m ((c : Thread nD τ).loc main_arg6) : Vec Ideal S512x2 .f32) b

/-- The slices the kernel works on hold the entry's data. -/
theorem data_eq (c : Dev nD) (b : Fin 16) :
    data (slab (V m c main_call0_v0 : Vec Ideal S16x64x4096 .f32) b) (slab (V m c main_call0_v1 : Vec Ideal S16x64x4096 .f32) b)
      (slab (V m c main_call0_v2 : Vec Ideal S16x32x4096 .f32) b) (slab (V m c main_call0_v3 : Vec Ideal S16x32x4096 .f32) b)
      (slab (V m c main_call0_v7 : Vec Ideal S16x3x64 .f32) b) (slab (V m c main_call0_v8 : Vec Ideal S16x32x2 .f32) b) = args m c b := by
  rw [V_x, V_mask, V_sv, V_t, V_sm, V_tp]
  unfold data args batch
  congr 1
  · funext q; exact stack_class _ _ b q
  · funext q p; show transpose _ _ _ _ (ix3 b q p) = _; pointwise
  · funext q p; show transpose _ _ _ _ (ix3 b q p) = _; pointwise
  · funext e p; show transpose _ _ _ _ (ix3 b e p) = _; pointwise
  · funext e p; show transpose _ _ _ _ (ix3 b e p) = _; pointwise
  · funext q k; exact stack_query _ _ b q k
  · funext e k; exact electron_at _ b e k

/-- The result at an entry, a query and an electron. -/
theorem result_apply (c : Dev nD) (b : Fin 16) (q : Fin 64) (e : Fin 32) :
    result (F := Ideal) m c (ix3 b q e) = cost (args m c b) e q := by
  have h : result (F := Ideal) m c (ix3 b q e) = costs m c (ix3 b e q) := by
    unfold result; pointwise
  rw [h]
  show entry m c b (ix3 0 e q) = _
  unfold entry
  rw [block_apply, data_eq]

end Cert.KernelIdeal.Host

end
-- ==== Proof.Range.lean ====
/- What the precondition says of the kernel's arguments: every batch entry's data are in the range where the two spellings of
   the cost agree. -/
module

public import proofs.«01_k».proof.Defs
public import proofs.«01_k».proof.Proof.Equation
public import proofs.«01_k».proof.Proof.KernelValue
public import proofs.«01_k».proof.Proof.Gen.Pre_inputs_in_range

@[expose] public section

set_option maxRecDepth 16384

noncomputable section

namespace Cert.Range

open Idealize.ShloMosaic Cert.Pre_inputs_in_range Cert.Cost

attribute [local instance] Cert.Pre_inputs_in_range.Gen.facts

/-- The f32 infinity. -/
theorem top_eq : Ideal.ofBits .f32 0x7F800000#32 = ⊤ := by simp [Ideal.ofBits, Ideal.ieee]

/-- The conjunction of two decided bits decides the conjunction. -/
theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The disjunction of two decided bits decides the disjunction. -/
theorem or_bit (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-- A decided bit is set exactly when the proposition holds. -/
theorem bit_set (p : Prop) [Decidable p] : BitVec.ofBool (decide p) = 1#1 ↔ p := by
  by_cases hp : p <;> simp [hp]

variable (a0 : FVec Ideal S1024 .f32) (a1 a2 : FVec Ideal S16x4096x64 .f32) (a3 a4 : FVec Ideal S16x4096x32 .f32)
  (a5 : FVec Ideal S1024x2 .f32) (a6 : FVec Ideal S512x2 .f32) (a7 a8 : IVec S17 32)

/-- The first result: a query's weight and logit fit at every point. -/
theorem support_bit (b : Fin 16) (p : Fin 4096) (q : Fin 64) (h : (fn a0 a1 a2 a3 a4 a5 a6 a7 a8).1 (ix3 b p q) = 1#1) :
    Fit (fun k => a1 (ix3 b p k)) (fun k => a2 (ix3 b p k)) q := by
  revert h
  pointwise [fn, fn_part1, Fit, tiny]
  rw [and_bit, and_bit, and_bit, or_bit, bit_set, top_eq, bottom_eq]
  rintro (h | ⟨⟨⟨h1, h2⟩, h3⟩, h4⟩)
  · exact Or.inl h
  · exact Or.inr ⟨h1, h2, h3, h4⟩

/-- The second: a presence is above minus infinity. -/
theorem presence_bit (i : S16x4096x32.Idx) (h : (fn a0 a1 a2 a3 a4 a5 a6 a7 a8).2 i = 1#1) : (⊥ : EReal) < a4 i := by
  rw [← bottom_eq]
  exact (bit_set _).mp h

/-- Under the precondition every entry's data are in range. -/
theorem good (m : (ℓ : Loc Cert.KernelIdeal.nD Cert.KernelIdeal.τ Cert.KernelIdeal.sig) → Buf (Elt Ideal) ℓ)
    (h : Cert.Pre_KernelIdeal_inputs_in_range m) (c : Dev Cert.KernelIdeal.nD) (b : Fin 16) :
    Good (Cert.KernelIdeal.Host.args m c b) := by
  obtain ⟨h1, h2⟩ := h c
  exact ⟨fun q p => support_bit _ _ _ _ _ _ _ _ _ b p q (congrFun h1 (ix3 b p q)),
    fun e p => presence_bit _ _ _ _ _ _ _ _ _ _ (congrFun h2 (ix3 b p e))⟩

end Cert.Range

end
-- ==== Proof.RefParts.lean ====
/- What the reference computes, part by part: each stage the cost is made of, read at an index from the arguments. -/
module

public import proofs.«01_k».proof.Proof.Batch
public import proofs.«01_k».proof.Proof.Gen.ReferenceIdeal.Read
public import Idealize.ShloMosaic.Lib.Pointwise

@[expose] public section

set_option maxRecDepth 16384

noncomputable section

namespace Cert.ReferenceIdeal.Parts

open Idealize.ShloMosaic Cert.ReferenceIdeal Cert.ReferenceIdeal.Gen Cert.ReferenceIdeal.Read Cert.Cost

/-- Nothing differs from itself, so the guard of the reference's softplus never fires. -/
theorem softplus_eq {φ : FTy} (x : Ideal φ) (y : EReal) :
    (if x ≠ x then y else max (x : EReal) 0 + Ideal.log1p (Ideal.exp (-(FloatOps.absf x : EReal)))) = softplus x :=
  if_neg (fun h => h rfl)

/-- The class part, by query over all entries. -/
theorem class_flat (x0 : FVec Ideal S1024 .f32) (i : Fin 1024) :
    val_main_v1 (F := Ideal) x0 (ix1 i) = softplus (-(x0 (ix1 i))) := by
  pointwise [val_main_v1, val_main_v0, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst]
  exact softplus_eq _ _

/-- The softplus of a negated mask logit. -/
theorem softplus_neg (x1 : FVec Ideal S16x4096x64 .f32) (b : Fin 16) (p : Fin 4096) (q : Fin 64) :
    val_main_v4 (F := Ideal) x1 (ix3 b p q) = softplus (-(x1 (ix3 b p q))) := by
  pointwise [val_main_v4, val_main_v3, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst]
  exact softplus_eq _ _

/-- The softplus of a mask logit. -/
theorem softplus_pos (x1 : FVec Ideal S16x4096x64 .f32) (b : Fin 16) (p : Fin 4096) (q : Fin 64) :
    val_main_v6 (F := Ideal) x1 (ix3 b p q) = softplus (x1 (ix3 b p q)) := by
  pointwise [val_main_v6, val_main_call2_v11, val_main_call2_v10, val_main_call2_v9, val_main_call2_v8, val_main_call2_v7, val_main_call2_v6, val_main_call2_v5, val_main_call2_v4, val_main_call2_v3, val_main_call2_v2, val_main_call2_v1, val_main_call2_v0, val_main_call2_cst]
  exact softplus_eq _ _

/-- The count of present points of a batch entry. -/
theorem count_apply (x4 : FVec Ideal S16x4096x32 .f32) (b : Fin 16) :
    val_main_v14 (F := Ideal) x4 (ix1 b) = ∑ p : Fin 4096, ∑ e : Fin 32, x4 (ix3 b p e) := by
  pointwise [val_main_v14, val_main_cst_0]

/-- A masked logit. -/
theorem masked_apply (x1 x2 : FVec Ideal S16x4096x64 .f32) (b : Fin 16) (p : Fin 4096) (q : Fin 64) :
    val_main_v23 (F := Ideal) x1 x2 (ix3 b p q)
      = masked (fun k => x1 (ix3 b p k)) (fun k => x2 (ix3 b p k)) q := by
  pointwise [val_main_v23, val_main_v22, val_main_v21, val_main_call3_v1, val_main_call3_v0, val_main_cst_2, val_main_cst_3, masked, low]
  rfl

/-- The greatest masked logit of a point. -/
theorem top_apply (x1 x2 : FVec Ideal S16x4096x64 .f32) (b : Fin 16) (p : Fin 4096) :
    val_main_v24 (F := Ideal) x1 x2 (ix2 b p)
      = (Finset.univ : Finset (Fin 64)).fold max ⊥ (masked (fun k => x1 (ix3 b p k)) (fun k => x2 (ix3 b p k))) := by
  pointwise [val_main_v24, val_main_cst_4, masked_apply]
  rw [bottom_eq]

/-- A weight: the lowered exponential times the support. -/
theorem weight_apply (x1 x2 : FVec Ideal S16x4096x64 .f32) (b : Fin 16) (p : Fin 4096) (q : Fin 64) :
    val_main_v29 (F := Ideal) x1 x2 (ix3 b p q)
      = Ideal.exp (masked (fun k => x1 (ix3 b p k)) (fun k => x2 (ix3 b p k)) q
          - (Finset.univ : Finset (Fin 64)).fold max ⊥ (masked (fun k => x1 (ix3 b p k)) (fun k => x2 (ix3 b p k))))
        * x2 (ix3 b p q) := by
  pointwise [val_main_v29, val_main_v28, val_main_v27, val_main_v26, val_main_v25, masked_apply, top_apply]

/-- A query's share of a point. -/
theorem portion_apply (x1 x2 : FVec Ideal S16x4096x64 .f32) (b : Fin 16) (p : Fin 4096) (q : Fin 64) :
    val_main_v35 (F := Ideal) x1 x2 (ix3 b p q)
      = portionRef (fun k => x1 (ix3 b p k)) (fun k => x2 (ix3 b p k)) q := by
  pointwise [val_main_v35, val_main_v34, val_main_v33, val_main_v32, val_main_v31, val_main_v30, val_main_cst_5,
    val_main_cst_6, weight_apply, portionRef, tiny]

/-! ## The four terms -/

variable (a0 : FVec Ideal S1024 .f32) (a1 a2 : FVec Ideal S16x4096x64 .f32) (a3 a4 : FVec Ideal S16x4096x32 .f32)
  (a5 : FVec Ideal S1024x2 .f32) (a6 : FVec Ideal S512x2 .f32) (b : Fin 16) (e : Fin 32) (q : Fin 64)

/-- The class term. -/
theorem class_term : val_main_v77 (F := Ideal) a0 (ix3 b q e) = softplus (-(a0 (ix1 (queryAt b q)))) := by
  pointwise [val_main_v77, val_main_v74, val_main_v73, val_main_v72, val_main_v2, val_main_cst_18, class_flat, queryAt]

/-- The mask term. -/
theorem mask_term : val_main_v20 (F := Ideal) a1 a2 a4 (ix3 b q e)
    = Ideal.div ((∑ p, softplus (-(a1 (ix3 b p q))) * a2 (ix3 b p q) * a4 (ix3 b p e))
        + ((∑ p, softplus (a1 (ix3 b p q)) * a2 (ix3 b p q)) - ∑ p, softplus (a1 (ix3 b p q)) * a2 (ix3 b p q) * a4 (ix3 b p e)))
      (present (fun e p => a4 (ix3 b p e))) := by
  rw [present, Finset.sum_comm]
  pointwise [val_main_v20, val_main_v19, val_main_v18, val_main_v17, val_main_v16, val_main_v15, val_main_v13, val_main_v12,
    val_main_v11, val_main_v10, val_main_v9, val_main_v8, val_main_v7, val_main_v5, val_main_cst, val_main_cst_1, softplus_neg,
    softplus_pos, count_apply]

/-- The dice term. -/
theorem dice_term : val_main_v52 (F := Ideal) a1 a2 a3 (ix3 b q e)
    = dice (∑ p, portionRef (fun k => a1 (ix3 b p k)) (fun k => a2 (ix3 b p k)) q * a3 (ix3 b p e))
      (∑ p, portionRef (fun k => a1 (ix3 b p k)) (fun k => a2 (ix3 b p k)) q) (∑ p, a3 (ix3 b p e)) := by
  pointwise [val_main_v52, val_main_v51, val_main_v50, val_main_v49, val_main_v48, val_main_v47, val_main_v46, val_main_v45,
    val_main_v44, val_main_v43, val_main_v42, val_main_v41, val_main_v40, val_main_v39, val_main_v38, val_main_v37,
    val_main_v36, val_main_cst_7, val_main_cst_8, val_main_cst_9, val_main_cst_10, val_main_cst_11, val_main_cst_12,
    portion_apply, dice, two]

/-- The position term. -/
theorem position_term : val_main_v71 (F := Ideal) a5 a6 (ix3 b q e)
    = Ideal.div (∑ k : Fin 2, huber (a5 (ix2 (queryAt b q) k) - a6 (ix2 (electronAt b e) k))) two := by
  pointwise [val_main_v71, val_main_v70, val_main_v69, val_main_v68, val_main_v67, val_main_v66, val_main_v65, val_main_v64,
    val_main_v63, val_main_v62, val_main_v61, val_main_v60, val_main_v59, val_main_v58, val_main_v57, val_main_v56,
    val_main_v55, val_main_v54, val_main_v53, val_main_cst_13, val_main_cst_14, val_main_cst_15, val_main_cst_16,
    val_main_cst_17, queryAt, electronAt, huber, half, two]
  simp only [abs_eq]

/-- The reference's result at an index is the reference's cost of the batch entry's data. -/
theorem result_apply : val_main_v84 (F := Ideal) a0 a1 a2 a3 a4 a5 a6 (ix3 b q e)
    = costRef (batch a0 a1 a2 a3 a4 a5 a6 b) e q := by
  have h : val_main_v84 (F := Ideal) a0 a1 a2 a3 a4 a5 a6 (ix3 b q e)
      = val_main_v77 (F := Ideal) a0 (ix3 b q e) + val_main_v20 (F := Ideal) a1 a2 a4 (ix3 b q e)
        + val_main_v52 (F := Ideal) a1 a2 a3 (ix3 b q e) + val_main_v71 (F := Ideal) a5 a6 (ix3 b q e) := by
    pointwise [val_main_v84, val_main_v83, val_main_v82, val_main_v81, val_main_v80, val_main_v79, val_main_v78, val_main_v76,
      val_main_v75, val_main_cst_19, val_main_cst_20, val_main_cst_21]
  rw [h, class_term, mask_term, dice_term, position_term]
  rfl

end Cert.ReferenceIdeal.Parts

end
-- ==== Proof.Value.lean ====
/- The value equation: from equal arguments in range, the kernel's result array and the reference's are the same. -/
module

public import proofs.«01_k».proof.Proof.Range
public import proofs.«01_k».proof.Proof.RefParts

@[expose] public section

set_option maxRecDepth 16384

noncomputable section

namespace Cert.Value

open Idealize.ShloMosaic

/-- The reference's result, of the kernel's arguments. -/
theorem reference_eq (m : (ℓ : Loc Cert.KernelIdeal.nD Cert.KernelIdeal.τ Cert.KernelIdeal.sig) → Buf (Elt Ideal) ℓ)
    (h : Cert.Pre_KernelIdeal_inputs_in_range (hPre_inputs_in_range := Cert.Pre_inputs_in_range.Gen.facts) m)
    (c : Dev Cert.KernelIdeal.nD) :
    Cert.ReferenceIdeal.Read.val_main_v84 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.Host.result (F := Ideal) m c := by
  funext i
  obtain ⟨b, q, e, rfl⟩ : ∃ (b : Fin 16) (q : Fin 64) (e : Fin 32), i = ix3 b q e := ⟨i 0, i 1, i 2, eq_ix3 i⟩
  exact (Cert.ReferenceIdeal.Parts.result_apply _ _ _ _ _ _ _ b e q).trans
    ((Cert.Cost.cost_eq _ (Cert.Range.good m h c b) e q).trans (Cert.KernelIdeal.Host.result_apply m c b q e).symm)

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_inputs_in_range
public import proofs.«01_k».proof.Proof.Value
public import Idealize.ShloMosaic.Adequacy
public import Idealize.ShloMosaic.Init

@[expose] public section

noncomputable section

namespace Cert.Proof

open Idealize.ShloMosaic Idealize.SL.Sem

/-- The reference runs, leaves its arguments as they were, and has no semaphore to leave raised. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From arguments in range, the kernel and the reference both run and end with the same result. -/
theorem value : Cert.algebraic_KernelIdeal_ReferenceIdeal_pre_inputs_in_range (hKernelIdeal := Cert.KernelIdeal.Gen.facts)
    (hReferenceIdeal := Cert.ReferenceIdeal.Gen.facts) (hPre_inputs_in_range := Cert.Pre_inputs_in_range.Gen.facts) := by
  intro m g m' g' hpre hargs
  refine ⟨fun c => Cert.KernelIdeal.Host.result (F := Ideal) m c, Cert.KernelIdeal.Host.run (F := Ideal) m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5, h6, -⟩ := hargs c
  rw [Cert.ReferenceIdeal.Read.val_main_v84_eq, h0, h1, h2, h3, h4, h5, h6]
  exact Cert.Value.reference_eq m hpre c

/-- The certificate's claim. -/
theorem claim : Cert.Claim :=
  ⟨Cert.Kernel.Gen.facts, Cert.KernelIdeal.Gen.facts, Cert.ReferenceIdeal.Gen.facts, Cert.Pre_inputs_in_range.Gen.facts,
    fun m ρ _ => Cert.Kernel.Gen.frame m ρ, fun m ρ _ => Cert.KernelIdeal.Gen.frame m ρ,
    fun m ρ _ => Cert.KernelIdeal.Gen.frame m ρ, frame_reference,
    fun m ρ _ => frame_reference m ρ trivial, trivial, value⟩

end Cert.Proof

end
